-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v12)) (v7 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v12) = v6 c
          ∧ r.2.mem ((c.tc : Thread Cert.KernelIdeal.nD Cert.KernelIdeal.τ).loc Cert.KernelIdeal.main_v14) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_v142) = v4 c
          ∧ r.2.mem ((c.tc : Thread Cert.ReferenceIdeal.nD Cert.ReferenceIdeal.τ).loc Cert.ReferenceIdeal.main_v127) = v5 c
          ∧ r.2.mem ((c.tc : Thread Cert.ReferenceIdeal.nD Cert.ReferenceIdeal.τ).loc Cert.ReferenceIdeal.main_v134) = v6 c
          ∧ r.2.mem ((c.tc : Thread Cert.ReferenceIdeal.nD Cert.ReferenceIdeal.τ).loc Cert.ReferenceIdeal.main_v136) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S131072x32 : Shape := ⟨2, ![131072, 32]⟩
abbrev S4x512x32 : Shape := ⟨3, ![4, 512, 32]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S4x512x32 : S_.BroadcastsInDim S4x512x32 (![] : Fin 0 → Fin S4x512x32.rank)
  reducesTo_S4x512x32_S_d0_1_2 : S4x512x32.ReducesTo [0, 1, 2] S_

variable [Facts]

def fn {F : FTy → Type} [FloatOps F] (main_arg0 : FVec F S131072x32 .f32) (main_arg1 : FVec F S4x512x32 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S4x512x32 .f32 := Host.absf main_arg1
  let main_cst_0 : FVec F S_ .f32 := constant S_ .f32 0x7F800000#32
  let main_v5 : FVec F S4x512x32 .f32 := broadcastInDim S4x512x32 ![] bcast_S_S4x512x32 main_cst_0
  let main_v6 : IVec S4x512x32 1 := cmpf .olt main_v4 main_v5
  let main_c_1 : IVec S_ 1 := constantI S_ 1 1#1
  let main_v7 : IVec S_ 1 := (fun x v => Host.reduce IntOp.andi x v reducesTo_S4x512x32_S_d0_1_2 h_S_) main_v6 main_c_1
  let main_v8 : IVec S_ 1 := andi main_v3 main_v7
  main_v8
-- ==== Kernel.lean ====
abbrev S131072x32 : Shape := ⟨2, ![131072, 32]⟩
abbrev S4x512x32 : Shape := ⟨3, ![4, 512, 32]⟩
abbrev S32x131072 : Shape := ⟨2, ![32, 131072]⟩
abbrev S4x32x512 : Shape := ⟨3, ![4, 32, 512]⟩
abbrev S4x131072 : Shape := ⟨2, ![4, 131072]⟩
abbrev S4x32x131072 : Shape := ⟨3, ![4, 32, 131072]⟩
abbrev S5x32x131072 : Shape := ⟨3, ![5, 32, 131072]⟩
abbrev S1x4 : Shape := ⟨2, ![1, 4]⟩
abbrev S32x2048 : Shape := ⟨2, ![32, 2048]⟩
abbrev S4x2048 : Shape := ⟨2, ![4, 2048]⟩
abbrev S4x32x2048 : Shape := ⟨3, ![4, 32, 2048]⟩
abbrev S5x32x2048 : Shape := ⟨3, ![5, 32, 2048]⟩
abbrev S512x2048 : Shape := ⟨2, ![512, 2048]⟩
abbrev S1x512x32 : Shape := ⟨3, ![1, 512, 32]⟩
abbrev S512x32 : Shape := ⟨2, ![512, 32]⟩
abbrev S1x32x512 : Shape := ⟨3, ![1, 32, 512]⟩
abbrev S32x512 : Shape := ⟨2, ![32, 512]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S96x512 : Shape := ⟨2, ![96, 512]⟩
abbrev S96x2048 : Shape := ⟨2, ![96, 2048]⟩
abbrev S1x32x2048 : Shape := ⟨3, ![1, 32, 2048]⟩
abbrev S1 : Shape := ⟨1, ![1]⟩
abbrev S1x1x1 : Shape := ⟨3, ![1, 1, 1]⟩
abbrev S131072x4 : Shape := ⟨2, ![131072, 4]⟩
abbrev S131072x4x32 : Shape := ⟨3, ![131072, 4, 32]⟩
abbrev S131072x5x32 : Shape := ⟨3, ![131072, 5, 32]⟩
abbrev S4 : Shape := ⟨1, ![4]⟩
abbrev S_ : Shape := ⟨0, ![]⟩

abbrev nBuf : Space → Nat
  | .hbm => 26
  | .vmem => 15
  | .smem => 0
  | _ => 0

abbrev bufTy : (tb : Table) → Fin (tcTables nBuf tb) → BufTy
  | .hbm, ⟨0, _⟩ => ⟨S131072x32, .f32⟩
  | .hbm, ⟨1, _⟩ => ⟨S4x512x32, .f32⟩
  | .hbm, ⟨2, _⟩ => ⟨S32x131072, .f32⟩
  | .hbm, ⟨3, _⟩ => ⟨S4x32x512, .f32⟩
  | .hbm, ⟨4, _⟩ => ⟨S4x131072, .i32⟩
  | .hbm, ⟨5, _⟩ => ⟨S4x32x131072, .f32⟩
  | .hbm, ⟨6, _⟩ => ⟨S32x131072, .f32⟩
  | .hbm, ⟨7, _⟩ => ⟨S32x131072, .f32⟩
  | .hbm, ⟨8, _⟩ => ⟨S5x32x131072, .f32⟩
  | .hbm, ⟨9, _⟩ => ⟨S1x4, .f32⟩
  | .hbm, ⟨10, _⟩ => ⟨S131072x4, .i32⟩
  | .hbm, ⟨11, _⟩ => ⟨S131072x4x32, .f32⟩
  | .hbm, ⟨12, _⟩ => ⟨S131072x32, .f32⟩
  | .hbm, ⟨13, _⟩ => ⟨S131072x32, .f32⟩
  | .hbm, ⟨14, _⟩ => ⟨S131072x5x32, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S32x2048, .f32⟩
  | .local _ .vmem, ⟨1, _⟩ => ⟨S32x2048, .f32⟩
  | .local _ .vmem, ⟨2, _⟩ => ⟨S4x512x32, .f32⟩
  | .local _ .vmem, ⟨3, _⟩ => ⟨S4x32x512, .f32⟩
  | .local _ .vmem, ⟨4, _⟩ => ⟨S4x2048, .i32⟩
  | .local _ .vmem, ⟨5, _⟩ => ⟨S4x2048, .i32⟩
  | .local _ .vmem, ⟨6, _⟩ => ⟨S4x32x2048, .f32⟩
  | .local _ .vmem, ⟨7, _⟩ => ⟨S4x32x2048, .f32⟩
  | .local _ .vmem, ⟨8, _⟩ => ⟨S32x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S5x32x2048, .f32⟩
  | .local _ .vmem, ⟨13, _⟩ => ⟨S5x32x2048, .f32⟩
  | .local _ .vmem, ⟨14, _⟩ => ⟨S1x4, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_100 : BitVec 32 := 0#32
  let v277 : BitVec 1 := Scalar.cmpi .eq arg0 c0_i32_100
  let v278 : BitVec 32 := Scalar.extui v277
  let c0_i32_101 : BitVec 32 := 0#32
  let v279 : BitVec 1 := Scalar.cmpi .ne v278 c0_i32_101
  v279

def k0_cond2 (i : grid0.Coords) : BitVec 1 :=
  let arg0 : BitVec 32 := BitVec.ofNat 32 (i 0).val
  let c0_i32_102 : BitVec 32 := 0#32
  let v280 : BitVec 1 := Scalar.cmpi .ne arg0 c0_i32_102
  let v281 : BitVec 32 := Scalar.extui v280
  let c0_i32_103 : BitVec 32 := 0#32
  let v282 : BitVec 1 := Scalar.cmpi .ne v281 c0_i32_103
  v282

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S131072x32 : Shape := ⟨2, ![131072, 32]⟩
abbrev S4x512x32 : Shape := ⟨3, ![4, 512, 32]⟩
abbrev S1x512x32 : Shape := ⟨3, ![1, 512, 32]⟩
abbrev S512x32 : Shape := ⟨2, ![512, 32]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S32x512 : Shape := ⟨2, ![32, 512]⟩
abbrev S1 : Shape := ⟨1, ![1]⟩
abbrev S1x1 : Shape := ⟨2, ![1, 1]⟩
abbrev S131072x1x32 : Shape := ⟨3, ![131072, 1, 32]⟩
abbrev S131072x4x32 : Shape := ⟨3, ![131072, 4, 32]⟩
abbrev S131072x4 : Shape := ⟨2, ![131072, 4]⟩
abbrev S4 : Shape := ⟨1, ![4]⟩
abbrev S131072x5x32 : Shape := ⟨3, ![131072, 5, 32]⟩

abbrev nBuf : Space → Nat
  | .hbm => 283
  | .vmem => 0
  | .smem => 0
  | _ => 0

abbrev hbmTy0_0 (i : Nat) : BufTy := match i % 128 with
  | 0 => ⟨S131072x32, .f32⟩
  | 1 => ⟨S4x512x32, .f32⟩
  | 2 => ⟨S1x512x32, .f32⟩
  | 3 => ⟨S512x32, .f32⟩
  | 4 => ⟨S131072x32, .f32⟩
  | 5 => ⟨S_, .f32⟩
  | 6 => ⟨S131072, .f32⟩
  | 7 => ⟨S131072x1, .f32⟩
  | 8 => ⟨S512x32, .f32⟩
  | 9 => ⟨S_, .f32⟩
  | 10 => ⟨S512, .f32⟩
  | 11 => ⟨S1x512, .f32⟩
  | 12 => ⟨S131072x512, .f32⟩
  | 13 => ⟨S131072x512, .f32⟩
  | 14 => ⟨S131072x512, .f32⟩
  | 15 => ⟨S32x512, .f32⟩
  | 16 => ⟨S131072x512, .f32⟩
  | 17 => ⟨S_, .f32⟩
  | 18 => ⟨S131072x512, .f32⟩
  | 19 => ⟨S131072x512, .f32⟩
  | 20 => ⟨S131072x512, .f32⟩
  | 21 => ⟨S131072x512, .i32⟩
  | 22 => ⟨S_, .f32⟩
  | 23 => ⟨S_, .i32⟩
  | 24 => ⟨S131072, .f32⟩
  | 25 => ⟨S131072, .i32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S131072x1, .i32⟩
  | 34 => ⟨S1, .i32⟩
  | 35 => ⟨S_, .i32⟩
  | 36 => ⟨S131072x1, .i32⟩
  | 37 => ⟨S131072x1, .i1⟩
  | 38 => ⟨S1x1, .i32⟩
  | 39 => ⟨S131072x1, .i32⟩
  | 40 => ⟨S131072x1, .i1⟩
  | 41 => ⟨S131072x1, .i1⟩
  | 42 => ⟨S_, .i1⟩
  | 43 => ⟨S131072, .i1⟩
  | 44 => ⟨S131072x32, .f32⟩
  | 45 => ⟨S131072x32, .i1⟩
  | 46 => ⟨S_, .f32⟩
  | 47 => ⟨S131072x32, .f32⟩
  | 48 => ⟨S131072x32, .f32⟩
  | 49 => ⟨S131072x32, .f32⟩
  | 50 => ⟨S131072x32, .f32⟩
  | 51 => ⟨S_, .f32⟩
  | 52 => ⟨S_, .f32⟩
  | 53 => ⟨S_, .f32⟩
  | 54 => ⟨S_, .f32⟩
  | 55 => ⟨S131072x32, .f32⟩
  | 56 => ⟨S131072x32, .f32⟩
  | 57 => ⟨S_, .f32⟩
  | 58 => ⟨S_, .f32⟩
  | 59 => ⟨S_, .f32⟩
  | 60 => ⟨S_, .f32⟩
  | 61 => ⟨S131072x32, .f32⟩
  | 62 => ⟨S1x512x32, .f32⟩
  | 63 => ⟨S512x32, .f32⟩
  | 64 => ⟨S131072x32, .f32⟩
  | 65 => ⟨S_, .f32⟩
  | 66 => ⟨S131072, .f32⟩
  | 67 => ⟨S131072x1, .f32⟩
  | 68 => ⟨S512x32, .f32⟩
  | 69 => ⟨S_, .f32⟩
  | 70 => ⟨S512, .f32⟩
  | 71 => ⟨S1x512, .f32⟩
  | 72 => ⟨S131072x512, .f32⟩
  | 73 => ⟨S131072x512, .f32⟩
  | 74 => ⟨S131072x512, .f32⟩
  | 75 => ⟨S32x512, .f32⟩
  | 76 => ⟨S131072x512, .f32⟩
  | 77 => ⟨S_, .f32⟩
  | 78 => ⟨S131072x512, .f32⟩
  | 79 => ⟨S131072x512, .f32⟩
  | 80 => ⟨S131072x512, .f32⟩
  | 81 => ⟨S131072x512, .i32⟩
  | 82 => ⟨S_, .f32⟩
  | 83 => ⟨S_, .i32⟩
  | 84 => ⟨S131072, .f32⟩
  | 85 => ⟨S131072, .i32⟩
  | 86 => ⟨S_, .i32⟩
  | 87 => ⟨S131072, .i32⟩
  | 88 => ⟨S131072, .i1⟩
  | 89 => ⟨S_, .i32⟩
  | 90 => ⟨S131072, .i32⟩
  | 91 => ⟨S131072, .i32⟩
  | 92 => ⟨S131072, .i32⟩
  | 93 => ⟨S131072x1, .i32⟩
  | 94 => ⟨S1, .i32⟩
  | 95 => ⟨S_, .i32⟩
  | 96 => ⟨S131072x1, .i32⟩
  | 97 => ⟨S131072x1, .i1⟩
  | 98 => ⟨S1x1, .i32⟩
  | 99 => ⟨S131072x1, .i32⟩
  | 100 => ⟨S131072x1, .i1⟩
  | 101 => ⟨S131072x1, .i1⟩
  | 102 => ⟨S_, .i1⟩
  | 103 => ⟨S131072, .i1⟩
  | 104 => ⟨S131072x32, .f32⟩
  | 105 => ⟨S131072x32, .i1⟩
  | 106 => ⟨S_, .f32⟩
  | 107 => ⟨S131072x32, .f32⟩
  | 108 => ⟨S131072x32, .f32⟩
  | 109 => ⟨S131072x32, .f32⟩
  | 110 => ⟨S131072x32, .f32⟩
  | 111 => ⟨S_, .f32⟩
  | 112 => ⟨S_, .f32⟩
  | 113 => ⟨S_, .f32⟩
  | 114 => ⟨S_, .f32⟩
  | 115 => ⟨S131072x32, .f32⟩
  | 116 => ⟨S131072x32, .f32⟩
  | 117 => ⟨S_, .f32⟩
  | 118 => ⟨S_, .f32⟩
  | 119 => ⟨S_, .f32⟩
  | 120 => ⟨S_, .f32⟩
  | 121 => ⟨S131072x32, .f32⟩
  | 122 => ⟨S1x512x32, .f32⟩
  | 123 => ⟨S512x32, .f32⟩
  | 124 => ⟨S131072x32, .f32⟩
  | 125 => ⟨S_, .f32⟩
  | 126 => ⟨S131072, .f32⟩
  | 127 => ⟨S131072x1, .f32⟩
  | _ => ⟨S131072x32, .f32⟩

abbrev hbmTy0_1 (i : Nat) : BufTy := match i % 128 with
  | 0 => ⟨S512x32, .f32⟩
  | 1 => ⟨S_, .f32⟩
  | 2 => ⟨S512, .f32⟩
  | 3 => ⟨S1x512, .f32⟩
  | 4 => ⟨S131072x512, .f32⟩
  | 5 => ⟨S131072x512, .f32⟩
  | 6 => ⟨S131072x512, .f32⟩
  | 7 => ⟨S32x512, .f32⟩
  | 8 => ⟨S131072x512, .f32⟩
  | 9 => ⟨S_, .f32⟩
  | 10 => ⟨S131072x512, .f32⟩
  | 11 => ⟨S131072x512, .f32⟩
  | 12 => ⟨S131072x512, .f32⟩
  | 13 => ⟨S131072x512, .i32⟩
  | 14 => ⟨S_, .f32⟩
  | 15 => ⟨S_, .i32⟩
  | 16 => ⟨S131072, .f32⟩
  | 17 => ⟨S131072, .i32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S131072x1, .i32⟩
  | 26 => ⟨S1, .i32⟩
  | 27 => ⟨S_, .i32⟩
  | 28 => ⟨S131072x1, .i32⟩
  | 29 => ⟨S131072x1, .i1⟩
  | 30 => ⟨S1x1, .i32⟩
  | 31 => ⟨S131072x1, .i32⟩
  | 32 => ⟨S131072x1, .i1⟩
  | 33 => ⟨S131072x1, .i1⟩
  | 34 => ⟨S_, .i1⟩
  | 35 => ⟨S131072, .i1⟩
  | 36 => ⟨S131072x32, .f32⟩
  | 37 => ⟨S131072x32, .i1⟩
  | 38 => ⟨S_, .f32⟩
  | 39 => ⟨S131072x32, .f32⟩
  | 40 => ⟨S131072x32, .f32⟩
  | 41 => ⟨S131072x32, .f32⟩
  | 42 => ⟨S131072x32, .f32⟩
  | 43 => ⟨S_, .f32⟩
  | 44 => ⟨S_, .f32⟩
  | 45 => ⟨S_, .f32⟩
  | 46 => ⟨S_, .f32⟩
  | 47 => ⟨S131072x32, .f32⟩
  | 48 => ⟨S131072x32, .f32⟩
  | 49 => ⟨S_, .f32⟩
  | 50 => ⟨S_, .f32⟩
  | 51 => ⟨S_, .f32⟩
  | 52 => ⟨S_, .f32⟩
  | 53 => ⟨S131072x32, .f32⟩
  | 54 => ⟨S1x512x32, .f32⟩
  | 55 => ⟨S512x32, .f32⟩
  | 56 => ⟨S131072x32, .f32⟩
  | 57 => ⟨S_, .f32⟩
  | 58 => ⟨S131072, .f32⟩
  | 59 => ⟨S131072x1, .f32⟩
  | 60 => ⟨S512x32, .f32⟩
  | 61 => ⟨S_, .f32⟩
  | 62 => ⟨S512, .f32⟩
  | 63 => ⟨S1x512, .f32⟩
  | 64 => ⟨S131072x512, .f32⟩
  | 65 => ⟨S131072x512, .f32⟩
  | 66 => ⟨S131072x512, .f32⟩
  | 67 => ⟨S32x512, .f32⟩
  | 68 => ⟨S131072x512, .f32⟩
  | 69 => ⟨S_, .f32⟩
  | 70 => ⟨S131072x512, .f32⟩
  | 71 => ⟨S131072x512, .f32⟩
  | 72 => ⟨S131072x512, .f32⟩
  | 73 => ⟨S131072x512, .i32⟩
  | 74 => ⟨S_, .f32⟩
  | 75 => ⟨S_, .i32⟩
  | 76 => ⟨S131072, .f32⟩
  | 77 => ⟨S131072, .i32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S131072x1, .i32⟩
  | 86 => ⟨S1, .i32⟩
  | 87 => ⟨S_, .i32⟩
  | 88 => ⟨S131072x1, .i32⟩
  | 89 => ⟨S131072x1, .i1⟩
  | 90 => ⟨S1x1, .i32⟩
  | 91 => ⟨S131072x1, .i32⟩
  | 92 => ⟨S131072x1, .i1⟩
  | 93 => ⟨S131072x1, .i1⟩
  | 94 => ⟨S_, .i1⟩
  | 95 => ⟨S131072, .i1⟩
  | 96 => ⟨S131072x32, .f32⟩
  | 97 => ⟨S131072x32, .i1⟩
  | 98 => ⟨S_, .f32⟩
  | 99 => ⟨S131072x32, .f32⟩
  | 100 => ⟨S131072x32, .f32⟩
  | 101 => ⟨S131072x32, .f32⟩
  | 102 => ⟨S131072x32, .f32⟩
  | 103 => ⟨S_, .f32⟩
  | 104 => ⟨S_, .f32⟩
  | 105 => ⟨S_, .f32⟩
  | 106 => ⟨S_, .f32⟩
  | 107 => ⟨S131072x32, .f32⟩
  | 108 => ⟨S131072x32, .f32⟩
  | 109 => ⟨S_, .f32⟩
  | 110 => ⟨S_, .f32⟩
  | 111 => ⟨S_, .f32⟩
  | 112 => ⟨S_, .f32⟩
  | 113 => ⟨S131072x32, .f32⟩
  | 114 => ⟨S131072x1x32, .f32⟩
  | 115 => ⟨S131072x1x32, .f32⟩
  | 116 => ⟨S131072x1x32, .f32⟩
  | 117 => ⟨S131072x1x32, .f32⟩
  | 118 => ⟨S131072x4x32, .f32⟩
  | 119 => ⟨S_, .f32⟩
  | 120 => ⟨S131072x32, .f32⟩
  | 121 => ⟨S131072x32, .f32⟩
  | 122 => ⟨S131072x32, .f32⟩
  | 123 => ⟨S131072x1, .i32⟩
  | 124 => ⟨S131072x1, .i32⟩
  | 125 => ⟨S131072x1, .i32⟩
  | 126 => ⟨S131072x1, .i32⟩
  | 127 => ⟨S131072x4, .i32⟩
  | _ => ⟨S131072x32, .f32⟩

abbrev hbmTy0_2 (i : Nat) : BufTy := match i % 128 with
  | 0 => ⟨S1, .f32⟩
  | 1 => ⟨S1, .f32⟩
  | 2 => ⟨S1, .f32⟩
  | 3 => ⟨S1, .f32⟩
  | 4 => ⟨S4, .f32⟩
  | 5 => ⟨S_, .f32⟩
  | 6 => ⟨S_, .f32⟩
  | 7 => ⟨S_, .f32⟩
  | 8 => ⟨S_, .f32⟩
  | 9 => ⟨S1, .f32⟩
  | 10 => ⟨S1, .f32⟩
  | 11 => ⟨S1, .f32⟩
  | 12 => ⟨S1, .f32⟩
  | 13 => ⟨S4, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S131072x1x32, .f32⟩
  | 22 => ⟨S131072x1x32, .f32⟩
  | 23 => ⟨S131072x1x32, .f32⟩
  | 24 => ⟨S131072x1x32, .f32⟩
  | 25 => ⟨S131072x1x32, .f32⟩
  | 26 => ⟨S131072x5x32, .f32⟩
  | _ => ⟨S131072x32, .f32⟩

abbrev hbmTy (i : Nat) : BufTy := match i / 128 with
  | 0 => hbmTy0_0 i
  | 1 => hbmTy0_1 i
  | 2 => hbmTy0_2 i
  | _ => ⟨S131072x32, .f32⟩

abbrev bufTy : (tb : Table) → Fin (tcTables nBuf tb) → BufTy
  | .hbm, ⟨i, _⟩ => hbmTy i
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_8 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call2_v0 : Ref sig .tc := ⟨.hbm, 81, rfl⟩
abbrev main_call2_cst : Ref sig .tc := ⟨.hbm, 82, rfl⟩
abbrev main_call2_c : Ref sig .tc := ⟨.hbm, 83, rfl⟩
abbrev main_call2_v1_0 : Ref sig .tc := ⟨.hbm, 84, rfl⟩
abbrev main_v43 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_cst_9 : Ref sig .tc := ⟨.hbm, 111, rfl⟩
abbrev main_v47 : Ref sig .tc := ⟨.hbm, 112, rfl⟩
abbrev main_cst_10 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_cst_11 : Ref sig .tc := ⟨.hbm, 117, rfl⟩
abbrev main_v51 : Ref sig .tc := ⟨.hbm, 118, rfl⟩
abbrev main_cst_12 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_cst_13 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_cst_14 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_cst_15 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_call4_v0 : Ref sig .tc := ⟨.hbm, 141, rfl⟩
abbrev main_call4_cst : Ref sig .tc := ⟨.hbm, 142, rfl⟩
abbrev main_call4_c : Ref sig .tc := ⟨.hbm, 143, rfl⟩
abbrev main_call4_v1_0 : Ref sig .tc := ⟨.hbm, 144, rfl⟩
abbrev main_v70 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_v14 : Ref sig .tc := ⟨.hbm, 165, rfl⟩
abbrev main_call5_cst : Ref sig .tc := ⟨.hbm, 166, rfl⟩
abbrev main_call5_v15 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_cst_16 : Ref sig .tc := ⟨.hbm, 171, rfl⟩
abbrev main_v74 : Ref sig .tc := ⟨.hbm, 172, rfl⟩
abbrev main_cst_17 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_cst_18 : Ref sig .tc := ⟨.hbm, 177, rfl⟩
abbrev main_v78 : Ref sig .tc := ⟨.hbm, 178, rfl⟩
abbrev main_cst_19 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_cst_20 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_cst_21 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_cst_22 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_call6_v0 : Ref sig .tc := ⟨.hbm, 201, rfl⟩
abbrev main_call6_cst : Ref sig .tc := ⟨.hbm, 202, rfl⟩
abbrev main_call6_c : Ref sig .tc := ⟨.hbm, 203, rfl⟩
abbrev main_call6_v1_0 : Ref sig .tc := ⟨.hbm, 204, rfl⟩
abbrev main_v97 : Ref sig .tc := ⟨.hbm, 205, rfl⟩
abbrev main_call7_c : Ref sig .tc := ⟨.hbm, 206, rfl⟩
abbrev main_call7_v0 : Ref sig .tc := ⟨.hbm, 207, rfl⟩
abbrev main_call7_v1 : Ref sig .tc := ⟨.hbm, 208, rfl⟩
abbrev main_call7_c_0 : Ref sig .tc := ⟨.hbm, 209, rfl⟩
abbrev main_call7_v2 : Ref sig .tc := ⟨.hbm, 210, rfl⟩
abbrev main_call7_v3 : Ref sig .tc := ⟨.hbm, 211, rfl⟩
abbrev main_call7_v4 : Ref sig .tc := ⟨.hbm, 212, rfl⟩
abbrev main_call7_v5 : Ref sig .tc := ⟨.hbm, 213, rfl⟩
abbrev main_call7_c_1 : Ref sig .tc := ⟨.hbm, 214, rfl⟩
abbrev main_call7_c_2 : Ref sig .tc := ⟨.hbm, 215, rfl⟩
abbrev main_call7_v6 : Ref sig .tc := ⟨.hbm, 216, rfl⟩
abbrev main_call7_v7 : Ref sig .tc := ⟨.hbm, 217, rfl⟩
abbrev main_call7_v8 : Ref sig .tc := ⟨.hbm, 218, rfl⟩
abbrev main_call7_v9 : Ref sig .tc := ⟨.hbm, 219, rfl⟩
abbrev main_call7_v10 : Ref sig .tc := ⟨.hbm, 220, rfl⟩
abbrev main_call7_v11 : Ref sig .tc := ⟨.hbm, 221, rfl⟩
abbrev main_call7_c_3 : Ref sig .tc := ⟨.hbm, 222, rfl⟩
abbrev main_call7_v12 : Ref sig .tc := ⟨.hbm, 223, rfl⟩
abbrev main_call7_v13 : Ref sig .tc := ⟨.hbm, 224, rfl⟩
abbrev main_call7_v14 : Ref sig .tc := ⟨.hbm, 225, rfl⟩
abbrev main_call7_cst : Ref sig .tc := ⟨.hbm, 226, rfl⟩
abbrev main_call7_v15 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_cst_23 : Ref sig .tc := ⟨.hbm, 231, rfl⟩
abbrev main_v101 : Ref sig .tc := ⟨.hbm, 232, rfl⟩
abbrev main_cst_24 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_cst_25 : Ref sig .tc := ⟨.hbm, 237, rfl⟩
abbrev main_v105 : Ref sig .tc := ⟨.hbm, 238, rfl⟩
abbrev main_cst_26 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_v112 : Ref sig .tc := ⟨.hbm, 246, rfl⟩
abbrev main_cst_27 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_cst_28 : Ref sig .tc := ⟨.hbm, 261, rfl⟩
abbrev main_v126 : Ref sig .tc := ⟨.hbm, 262, rfl⟩
abbrev main_cst_29 : Ref sig .tc := ⟨.hbm, 263, rfl⟩
abbrev main_v127 : Ref sig .tc := ⟨.hbm, 264, rfl⟩
abbrev main_v128 : Ref sig .tc := ⟨.hbm, 265, rfl⟩
abbrev main_v129 : Ref sig .tc := ⟨.hbm, 266, rfl⟩
abbrev main_v130 : Ref sig .tc := ⟨.hbm, 267, rfl⟩
abbrev main_v131 : Ref sig .tc := ⟨.hbm, 268, rfl⟩
abbrev main_v132 : Ref sig .tc := ⟨.hbm, 269, rfl⟩
abbrev main_cst_30 : Ref sig .tc := ⟨.hbm, 270, rfl⟩
abbrev main_v133 : Ref sig .tc := ⟨.hbm, 271, rfl⟩
abbrev main_cst_31 : Ref sig .tc := ⟨.hbm, 272, rfl⟩
abbrev main_v134 : Ref sig .tc := ⟨.hbm, 273, rfl⟩
abbrev main_cst_32 : Ref sig .tc := ⟨.hbm, 274, rfl⟩
abbrev main_v135 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩

abbrev nD : Nat := 1
abbrev τ : Topo := Topo.v7x

variable {F : FTy → Type} [FloatOps F]
-- ==== Proof.Rows.lean ====
module

public import Idealize.ShloMosaic.Lib.Pipeline.ValueKit

/-!
# One row of the residual quantizer, in the extended reals

A row of 32 entries is quantized four times over: at each level the nearest of 512 code words is
taken away from what is left of the row.  Here are the distances, the choice of the nearest word, and
what is left after each level, together with the facts about them that both programs need:
what the two ways of writing the distance have in common, and why picking a word with a one-hot
product is the same as looking it up.
-/

@[expose] public section

noncomputable section

open Idealize.ShloMosaic

namespace Cert.Rows

abbrev Row := Fin 32 → EReal
abbrev Book := Fin 512 → Fin 32 → EReal

/-- The value is a real number. -/
def IsReal (x : EReal) : Prop := ∃ r : ℝ, x = (r : EReal)

/-- The squared distance from the row to word `k`, written out as squares and a scalar product. -/
def dist (r : Row) (C : Book) (k : Fin 512) : EReal :=
  (∑ d, r d * r d + ∑ d, C k d * C k d) - 2 * ∑ d, r d * C k d

theorem least_nonempty (f : Fin 512 → EReal) : (Finset.univ.filter fun k => ∀ j, f k ≤ f j).Nonempty := by
  obtain ⟨k, -, hk⟩ := Finset.exists_min_image Finset.univ f ⟨0, Finset.mem_univ _⟩
  exact ⟨k, by simpa using fun j => hk j (Finset.mem_univ _)⟩

/-- The first place where `f` is least. -/
def nearest (f : Fin 512 → EReal) : Fin 512 :=
  (Finset.univ.filter fun k => ∀ j, f k ≤ f j).min' (least_nonempty f)

theorem nearest_le (f : Fin 512 → EReal) (j : Fin 512) : f (nearest f) ≤ f j :=
  (Finset.mem_filter.mp (Finset.min'_mem _ (least_nonempty f))).2 j

theorem nearest_first (f : Fin 512 → EReal) (k : Fin 512) (hk : f k = f (nearest f)) : nearest f ≤ k :=
  Finset.min'_le _ _ (Finset.mem_filter.mpr ⟨Finset.mem_univ _, fun j => hk ▸ nearest_le f j⟩)

theorem nearest_eq (f : Fin 512 → EReal) (k : Fin 512) (h : ∀ j, f k ≤ f j) (h' : ∀ j, j < k → f j ≠ f k) :
    nearest f = k := by
  have e : f k = f (nearest f) := le_antisymm (h _) (nearest_le f k)
  refine le_antisymm (nearest_first f k e) (not_lt.mp fun hlt => h' _ hlt e.symm)

/-- What is left of the row `z` before level `l`. -/
def state (z : Row) (C : ℕ → Book) : ℕ → Row
  | 0 => z
  | l + 1 => fun d => state z C l d - C l (nearest (dist (state z C l) (C l))) d

/-- The number of the word that level `l` takes. -/
def code (z : Row) (C : ℕ → Book) (l : ℕ) : Fin 512 := nearest (dist (state z C l) (C l))

/-- The word that level `l` takes. -/
def word (z : Row) (C : ℕ → Book) (l : ℕ) : Row := C l (code z C l)

theorem state_succ (z : Row) (C : ℕ → Book) (l : ℕ) (d : Fin 32) :
    state z C (l + 1) d = state z C l d - word z C l d := rfl

/-- The words of the four levels together, as the difference to the row and back. -/
def total (z : Row) (C : ℕ → Book) (d : Fin 32) : EReal := z d + (∑ l : Fin 4, word z C l.val d - z d)

/-! ## Real values -/

theorem IsReal.sub {x y : EReal} : IsReal x → IsReal y → IsReal (x - y) := by
  rintro ⟨a, rfl⟩ ⟨b, rfl⟩; exact ⟨a - b, by rw [EReal.coe_sub]⟩

theorem isReal_state {z : Row} {C : ℕ → Book} (hz : ∀ d, IsReal (z d)) (hC : ∀ l k d, IsReal (C l k d)) :
    ∀ l d, IsReal (state z C l d)
  | 0, d => hz d
  | l + 1, d => (isReal_state hz hC l d).sub (hC l _ d)

theorem isReal_word {z : Row} {C : ℕ → Book} (hC : ∀ l k d, IsReal (C l k d)) (l : ℕ) (d : Fin 32) :
    IsReal (word z C l d) := hC l _ d

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The factor minus two may be taken before the scalar product or after it. -/
theorem dist_of_scaled {r : Row} {C : Book} (hr : ∀ d, IsReal (r d)) (hC : ∀ k d, IsReal (C k d)) (k : Fin 512) :
    (∑ d, r d * r d + ∑ d, C k d * C k d) + ∑ d, C k d * (-2) * r d = dist r C k := by
  choose ρ hρ using hr
  choose γ hγ using hC
  have two : (2 : EReal) = ((2 : ℝ) : EReal) := rfl
  unfold dist
  simp only [hρ, hγ, two, ← EReal.coe_neg, ← EReal.coe_mul, coe_sum, ← EReal.coe_add, ← EReal.coe_sub]
  congr 1
  rw [sub_eq_add_neg, add_right_inj, Finset.mul_sum, ← Finset.sum_neg_distrib]
  exact Finset.sum_congr rfl fun d _ => by ring

theorem sub_self_of_real {x : EReal} : IsReal x → x - x = 0 := by
  rintro ⟨a, rfl⟩; rw [← EReal.coe_sub, sub_self]; rfl

/-- A number is its leading part plus the two remainders, which are nothing. -/
theorem three_parts {x : EReal} (h : IsReal x) : x + (x - x) + ((x - x) - (x - x)) = x := by
  rw [sub_self_of_real h]; simp

theorem sq_sub_comm {x y : EReal} : IsReal x → IsReal y → (x - y) * (x - y) = (y - x) * (y - x) := by
  rintro ⟨a, rfl⟩ ⟨b, rfl⟩
  rw [← EReal.coe_sub, ← EReal.coe_sub, ← EReal.coe_mul, ← EReal.coe_mul]; congr 1; ring

theorem two_f32 : Ideal.ofBits .f32 0x40000000#32 = 2 := by
  rw [show (2 : EReal) = ((2 : ℝ) : EReal) from rfl]
  simp [Ideal.ofBits, Ideal.ieee, -EReal.coe_mul]
  norm_num
theorem minus_two_f32 : Ideal.ofBits .f32 0xC0000000#32 = -2 := by
  rw [show (-2 : EReal) = ((-2 : ℝ) : EReal) from rfl]
  simp [Ideal.ofBits, Ideal.ieee, -EReal.coe_mul, -EReal.coe_neg]
  norm_num
theorem infinity_f32 : Ideal.ofBits .f32 0x7F800000#32 = ⊤ := by
  simp [Ideal.ofBits, Ideal.ieee]

/-! ## The smallest number among those where the distance is least -/

theorem fold_min_eq (f : Fin 512 → EReal) : Finset.fold min ⊤ f Finset.univ = f (nearest f) := by
  refine le_antisymm ?_ ?_
  · exact (Finset.fold_min_le _).mpr (.inr ⟨_, Finset.mem_univ _, le_rfl⟩)
  · exact (Finset.le_fold_min _).mpr ⟨le_top, fun j _ => nearest_le f j⟩

theorem toInt_minsi_le (x y : BitVec 32) : (IntOp.minsi x y).toInt ≤ x.toInt ∧ (IntOp.minsi x y).toInt ≤ y.toInt
    ∧ (IntOp.minsi x y = x ∨ IntOp.minsi x y = y) := by
  unfold IntOp.minsi
  split_ifs with h
  all_goals (simp only [BitVec.slt, decide_eq_true_eq, BitVec.sle] at h)
  · exact ⟨le_rfl, by omega, .inl rfl⟩
  · exact ⟨by omega, le_rfl, .inr rfl⟩

theorem fold_minsi_spec (s : Finset (Fin 512)) (a : BitVec 32) (g : Fin 512 → BitVec 32) :
    (∀ i ∈ s, (s.fold IntOp.minsi a g).toInt ≤ (g i).toInt)
      ∧ (s.fold IntOp.minsi a g = a ∨ ∃ i ∈ s, s.fold IntOp.minsi a g = g i) := by
  induction s using Finset.induction_on with
  | empty => exact ⟨by simp, .inl rfl⟩
  | insert i s hi ih =>
    rw [Finset.fold_insert hi]
    obtain ⟨h1, h2, h3⟩ := toInt_minsi_le (g i) (s.fold IntOp.minsi a g)
    refine ⟨fun j hj => ?_, ?_⟩
    · rcases Finset.mem_insert.mp hj with rfl | hj
      · exact h1
      · exact h2.trans (ih.1 j hj)
    · rcases h3 with h3 | h3 <;> rw [h3]
      · exact .inr ⟨i, Finset.mem_insert_self _ _, rfl⟩
      · rcases ih.2 with e | ⟨j, hj, e⟩
        · exact .inl e
        · exact .inr ⟨j, Finset.mem_insert_of_mem hj, e⟩

theorem toInt_ofNat_small (n : ℕ) (h : n ≤ 512) : (BitVec.ofNat 32 n).toInt = n := by
  rw [BitVec.toInt_eq_toNat_cond, BitVec.toNat_ofNat]; omega

/-- The least of the numbers `k` whose value is the minimum, a number past the end standing for the others. -/
theorem fold_minsi_eq (f : Fin 512 → EReal) :
    Finset.fold IntOp.minsi 2147483647#32 (fun k : Fin 512 => if f k = f (nearest f) then BitVec.ofNat 32 k.val else 512#32)
      Finset.univ = BitVec.ofNat 32 (nearest f).val := by
  obtain ⟨hle, hmem⟩ := fold_minsi_spec Finset.univ 2147483647#32
    (fun k : Fin 512 => if f k = f (nearest f) then BitVec.ofNat 32 k.val else 512#32)
  have hn := hle (nearest f) (Finset.mem_univ _)
  have b := (nearest f).isLt
  simp only [if_true] at hn
  rw [toInt_ofNat_small _ (by omega)] at hn
  rcases hmem with e | ⟨i, -, e⟩
  · rw [e] at hn
    have : (2147483647#32).toInt = 2147483647 := by decide
    omega
  · rw [e] at hn ⊢
    split_ifs at hn ⊢ with hi
    · have bi := i.isLt
      rw [toInt_ofNat_small _ (by omega)] at hn
      have := nearest_first f i hi
      rw [show i = nearest f from le_antisymm (Fin.le_def.mpr (by omega)) this]
    · have : (512#32).toInt = 512 := by decide
      omega

/-! ## Looking a word up by a product with a one-hot column -/

theorem hot_eq (x n : Fin 512) :
    (FloatOps.sitofp FTy.f32 (BitVec.setWidth 32 (IntOp.cmpi CmpIPredicate.eq (BitVec.ofNat 32 x.val) (BitVec.ofNat 32 n.val))) : Ideal .f32)
      = (if x = n then (1 : EReal) else 0) := by
  have hx := x.isLt
  have hn := n.isLt
  have e : (BitVec.ofNat 32 x.val = BitVec.ofNat 32 n.val) ↔ x = n := by
    refine ⟨fun h => Fin.ext ?_, fun h => by rw [h]⟩
    have := congrArg BitVec.toNat h
    simp only [BitVec.toNat_ofNat] at this
    omega
  by_cases h : x = n
  · subst h
    simp [IntOp.cmpi, FloatOps.sitofp]
  · have h' : ¬ (BitVec.ofNat 32 x.val = BitVec.ofNat 32 n.val) := fun q => h (e.mp q)
    simp [IntOp.cmpi, h, beq_eq_false_iff_ne.mpr h', FloatOps.sitofp]

theorem sum_hot (w : Fin 512 → EReal) (n : Fin 512) : ∑ x, w x * (if x = n then (1 : EReal) else 0) = w n := by
  simp

end Cert.Rows

end
-- ==== Proof.Levels.lean ====
module

public import proofs.«01_k».proof.Proof.Gen.KernelIdeal.Frame
public import proofs.«01_k».proof.Proof.Rows
public import Idealize.ShloMosaic.Lib.Pipeline.ValueKit

/-!
# One level of the kernel on one block of rows

The kernel's block holds its rows as columns.  Its four levels are the same arithmetic, which the
printed program splits differently at each level; `chosen`, `taken` and `counted` name it once, in the
form that the last level has it.
Column by column this arithmetic is the one of `Cert.Rows`.
-/

@[expose] public section

set_option maxRecDepth 16384

noncomputable section

open Idealize.ShloMosaic Idealize.ShloMosaic.TcCoe Idealize.SL.Sem
open Cert.KernelIdeal Cert.KernelIdeal.Gen

namespace Cert.KernelIdeal.Levels

/-- The row numbers of a 512 by 2048 block. -/
abbrev rowNo : IVec S512x2048 32 := iota .tc S512x2048 32 [0] iota_S512x2048_d0_w32

/-- The numbers of the words a level takes for the columns of `r`, from the level's codebook `w`. -/
def chosen (w : Vec Ideal S1x512x32 .f32) (r : FVec Ideal S32x2048 .f32) : IVec S1x2048 32 :=
  k0_pay38 rowNo r (k0_pay37 w)

/-- The words a level takes, as columns, `v` being the codebook transposed. -/
def taken (w : Vec Ideal S1x512x32 .f32) (v : Vec Ideal S1x32x512 .f32) (r : FVec Ideal S32x2048 .f32) : FVec Ideal S32x2048 .f32 :=
  k0_pay39 rowNo r (k0_pay37 w) v

/-- What a level leaves. -/
def left (w : Vec Ideal S1x512x32 .f32) (v : Vec Ideal S1x32x512 .f32) (r : FVec Ideal S32x2048 .f32) : FVec Ideal S32x2048 .f32 :=
  subf r (taken w v r)

/-- The column numbers of a 1 by 4 block. -/
abbrev colNo : IVec S1x4 32 := iota .tc S1x4 32 [1] iota_S1x4_d1_w32

/-- The sum of the squares of `r - q` added to entry `n` of a 1 by 4 block. -/
def counted (n : BitVec 32) (a : FVec Ideal S1x4 .f32) (r q : FVec Ideal S32x2048 .f32) : FVec Ideal S1x4 .f32 :=
  addf a (select (cmpi .eq colNo (broadcast S1x4 n))
    (broadcast S1x4 (extractAt ![0, 0, 0] (shapeCast S1x1x1 (multiReduction .add [1, 2] S1
      (shapeCast S1x32x2048 (mulf (subf r q) (subf r q)) shapeCasts_S32x2048_S1x32x2048)
      0x00000000#32 reduces_S1x32x2048_S1 (.inl rfl) rfl) shapeCasts_S1_S1x1x1) inpos_S1x1x1_p0_0_0))
    (broadcast S1x4 (Scalar.ofBits .f32 0x00000000#32)))

open Cert.Rows

/-- Column by column, the number that `chosen` finds is that of the nearest word. -/
theorem chosen_at (w : Vec Ideal S1x512x32 .f32) (r : FVec Ideal S32x2048 .f32) (C : Book) (ρ : Row) (x : S1x2048.Idx)
    (hw : ∀ k d, w (ix3 0 k d) = C k d) (hr : ∀ d, r (ix2 d (x 1)) = ρ d)
    (rC : ∀ k d, IsReal (C k d)) (rρ : ∀ d, IsReal (ρ d)) :
    chosen w r x = BitVec.ofNat 32 (nearest (dist ρ C)).val := by
  pointwise [chosen, k0_pay38, k0_pay37, rowNo]
  have hr' : ∀ d : Fin 32, r (ix2 d (x 1)) = ρ d := hr
  simp only [hw, hr', minus_two_f32, infinity_f32, dist_of_scaled rρ rC, fold_min_eq]
  exact fold_minsi_eq (Rows.dist ρ C)

/-- Column by column, the word that `taken` finds is the nearest one. -/
theorem taken_at (w : Vec Ideal S1x512x32 .f32) (v : Vec Ideal S1x32x512 .f32) (r : FVec Ideal S32x2048 .f32)
    (C : Book) (ρ : Row) (x : S32x2048.Idx)
    (hw : ∀ k d, w (ix3 0 k d) = C k d) (hv : ∀ d k, v (ix3 0 d k) = C k d) (hr : ∀ d, r (ix2 d (x 1)) = ρ d)
    (rC : ∀ k d, IsReal (C k d)) (rρ : ∀ d, IsReal (ρ d)) :
    taken w v r x = C (nearest (dist ρ C)) (x 0) := by
  have hc : k0_pay38 rowNo r (k0_pay37 w) (ix2 0 (x 1)) = BitVec.ofNat 32 (nearest (dist ρ C)).val :=
    chosen_at w r C ρ (ix2 0 (x 1)) hw hr rC rρ
  pointwise [taken, k0_pay39]
  have h0 : (x 0).val < 32 := (x 0).isLt
  have n1 : ¬ 64 + (x 0).val < 32 := by omega
  have n2 : ¬ 64 + (x 0).val - 32 < 32 := by omega
  have e : ∀ q, (⟨64 + (x 0).val - 32 - 32, q⟩ : Fin 32) = x 0 := fun q => Fin.ext (by dsimp only; omega)
  have hv' : v (ix3 0 (x 0) (nearest (Rows.dist ρ C))) = C (nearest (Rows.dist ρ C)) (x 0) := hv (x 0) _
  simp only [hc, hot_eq, dif_neg n1, dif_neg n2, e, sum_hot]
  simp only [hv']
  exact three_parts (rC _ _)

/-! ## The four levels of a block -/

/-- The codebook that level `l` reads: one of the four slabs of the array. -/
def book (x1 : Vec Ideal S4x512x32 .f32) : ℕ → Vec Ideal S1x512x32 .f32
  | 0 => View.ld x1 (Rect.unit (s := S4x512x32) ![0, 0, 0] S1x512x32.size inb_S4x512x32_S1x512x32_0_0_0)
  | 1 => View.ld x1 (Rect.unit (s := S4x512x32) ![1, 0, 0] S1x512x32.size inb_S4x512x32_S1x512x32_1_0_0)
  | 2 => View.ld x1 (Rect.unit (s := S4x512x32) ![2, 0, 0] S1x512x32.size inb_S4x512x32_S1x512x32_2_0_0)
  | _ => View.ld x1 (Rect.unit (s := S4x512x32) ![3, 0, 0] S1x512x32.size inb_S4x512x32_S1x512x32_3_0_0)

/-- The same of the transposed codebooks. -/
def bookT (x2 : Vec Ideal S4x32x512 .f32) : ℕ → Vec Ideal S1x32x512 .f32
  | 0 => View.ld x2 (Rect.unit (s := S4x32x512) ![0, 0, 0] S1x32x512.size inb_S4x32x512_S1x32x512_0_0_0)
  | 1 => View.ld x2 (Rect.unit (s := S4x32x512) ![1, 0, 0] S1x32x512.size inb_S4x32x512_S1x32x512_1_0_0)
  | 2 => View.ld x2 (Rect.unit (s := S4x32x512) ![2, 0, 0] S1x32x512.size inb_S4x32x512_S1x32x512_2_0_0)
  | _ => View.ld x2 (Rect.unit (s := S4x32x512) ![3, 0, 0] S1x32x512.size inb_S4x32x512_S1x32x512_3_0_0)

/-- What is left of the block's columns before level `l`. -/
def rest (x0 : Vec Ideal S32x2048 .f32) (x1 : Vec Ideal S4x512x32 .f32) (x2 : Vec Ideal S4x32x512 .f32) : ℕ → FVec Ideal S32x2048 .f32
  | 0 => k0_pay2 x0
  | l + 1 => left (book x1 l) (bookT x2 l) (rest x0 x1 x2 l)

/-- Column `b` of the block. -/
def col (x0 : Vec Ideal S32x2048 .f32) (b : Fin 2048) : Row := fun d => x0 (ix2 d b)

/-- The numbers of the codebooks; past the last one the last one again. -/
def lvl (l : ℕ) : Fin 4 := ⟨min l 3, by omega⟩

/-- The four codebooks. -/
def books (x1 : Vec Ideal S4x512x32 .f32) (l : ℕ) : Book := fun k d => x1 (ix3 (lvl l) k d)

/-- A slab of an array of slabs, read at an index. -/
theorem slab {n p : ℕ} (X : Vec Ideal ⟨3, ![4, n, p]⟩ .f32) (l : ℕ)
    (inb : ∀ a, (![l, 0, 0] : Fin 3 → Nat) a + (![1, n, p] : Fin 3 → Nat) a ≤ (![4, n, p] : Fin 3 → Nat) a) (j : Fin n) (k : Fin p) :
    View.ld X (Rect.unit (s := ⟨3, ![4, n, p]⟩) ![l, 0, 0] ![1, n, p] inb) (ix3 (0 : Fin 1) j k) = X (ix3 (lvl l) j k) := by
  have hl : l + 1 ≤ 4 := inb 0
  refine View.ld_unit_apply_of X _ _ inb _ _ fun a => ?_
  match a with
  | 0 => show min l 3 = l + 0
         omega
  | 1 => exact (Nat.zero_add _).symm
  | 2 => exact (Nat.zero_add _).symm

theorem book_at (x1 : Vec Ideal S4x512x32 .f32) : ∀ l k d, book x1 l (ix3 0 k d) = books x1 l k d
  | 0, k, d => slab x1 0 _ k d
  | 1, k, d => slab x1 1 _ k d
  | 2, k, d => slab x1 2 _ k d
  | l + 3, k, d => (slab x1 3 _ k d).trans (congrArg (fun q => x1 (ix3 q k d)) (Fin.ext (by show min 3 3 = min (l + 3) 3; omega)))

theorem bookT_at (x2 : Vec Ideal S4x32x512 .f32) : ∀ l d k, bookT x2 l (ix3 0 d k) = x2 (ix3 (lvl l) d k)
  | 0, d, k => slab x2 0 _ d k
  | 1, d, k => slab x2 1 _ d k
  | 2, d, k => slab x2 2 _ d k
  | l + 3, d, k => (slab x2 3 _ d k).trans (congrArg (fun q => x2 (ix3 q d k)) (Fin.ext (by show min 3 3 = min (l + 3) 3; omega)))

theorem select_ofNat (p q : ℕ) (hp : p < 2 ^ 32) (hq : q < 2 ^ 32) (u v : EReal) :
    Scalar.select (IntOp.cmpi CmpIPredicate.eq (BitVec.ofNat 32 p) (BitVec.ofNat 32 q)) u v = if p = q then u else v := by
  have e : BitVec.ofNat 32 p = BitVec.ofNat 32 q ↔ p = q := by
    refine ⟨fun h => ?_, fun h => by rw [h]⟩
    have := congrArg BitVec.toNat h
    simp only [BitVec.toNat_ofNat] at this
    omega
  by_cases h : p = q
  · subst h; simp [Scalar.select, IntOp.cmpi]
  · simp [Scalar.select, IntOp.cmpi, h, beq_eq_false_iff_ne.mpr (fun k => h (e.mp k))]

theorem counted_at (w : BitVec 32) (n : ℕ) (hw : w = BitVec.ofNat 32 n) (hn : n < 4) (a : FVec Ideal S1x4 .f32) (r q : FVec Ideal S32x2048 .f32) (x : S1x4.Idx) :
    counted w a r q x
      = a x + if (x 1).val = n then ∑ d : Fin 32, ∑ b : Fin 2048, (r (ix2 d b) - q (ix2 d b)) * (r (ix2 d b) - q (ix2 d b)) else 0 := by
  have h1 : (x 1).val < 4 := (x 1).isLt
  subst hw
  pointwise [counted]
  congr 1
  exact select_ofNat (x 1).val n (by omega) (by omega) _ _

section Block
variable {x0 : Vec Ideal S32x2048 .f32} {x1 : Vec Ideal S4x512x32 .f32} {x2 : Vec Ideal S4x32x512 .f32}
  (r0 : ∀ i, IsReal (x0 i)) (r1 : ∀ i, IsReal (x1 i)) (h2 : ∀ l d k, x2 (ix3 l d k) = x1 (ix3 l k d))
include r0 r1

theorem real_state (b : Fin 2048) (l : ℕ) (d : Fin 32) : IsReal (state (col x0 b) (books x1) l d) :=
  isReal_state (fun _ => r0 _) (fun _ _ _ => r1 _) l d

include h2

theorem rest_at (l : ℕ) : ∀ i : S32x2048.Idx, rest x0 x1 x2 l i = state (col x0 (i 1)) (books x1) l (i 0) := by
  induction l with
  | zero => intro i; show k0_pay2 x0 i = x0 (ix2 (i 0) (i 1)); pointwise [k0_pay2]; blk_ext
  | succ l ih =>
    intro i
    show rest x0 x1 x2 l i - taken (book x1 l) (bookT x2 l) (rest x0 x1 x2 l) i = _
    rw [ih i, taken_at (book x1 l) (bookT x2 l) (rest x0 x1 x2 l) (books x1 l) (state (col x0 (i 1)) (books x1) l) i
      (book_at x1 l) (fun d k => (bookT_at x2 l d k).trans (h2 _ d k)) (fun d => ih (ix2 d (i 1))) (fun _ _ => r1 _) (fun d => real_state r0 r1 _ l d)]
    rfl

theorem chosen_rest (l : ℕ) (x : S1x2048.Idx) :
    chosen (book x1 l) (rest x0 x1 x2 l) x = BitVec.ofNat 32 (code (col x0 (x 1)) (books x1) l).val :=
  chosen_at _ _ (books x1 l) (state (col x0 (x 1)) (books x1) l) x (book_at x1 l)
    (fun d => rest_at r0 r1 h2 l (ix2 d (x 1))) (fun _ _ => r1 _) (fun d => real_state r0 r1 _ l d)

theorem taken_rest (l : ℕ) (x : S32x2048.Idx) :
    taken (book x1 l) (bookT x2 l) (rest x0 x1 x2 l) x = word (col x0 (x 1)) (books x1) l (x 0) :=
  taken_at _ _ _ (books x1 l) (state (col x0 (x 1)) (books x1) l) x (book_at x1 l) (fun d k => (bookT_at x2 l d k).trans (h2 _ d k))
    (fun d => rest_at r0 r1 h2 l (ix2 d (x 1))) (fun _ _ => r1 _) (fun d => real_state r0 r1 _ l d)

/-- The block's shares of the four losses. -/
theorem counted_rest (x : S1x4.Idx) :
    counted 3#32 (counted 2#32 (counted 1#32 (counted 0#32 k0_pay4
      (rest x0 x1 x2 0) (taken (book x1 0) (bookT x2 0) (rest x0 x1 x2 0)))
      (rest x0 x1 x2 1) (taken (book x1 1) (bookT x2 1) (rest x0 x1 x2 1)))
      (rest x0 x1 x2 2) (taken (book x1 2) (bookT x2 2) (rest x0 x1 x2 2)))
      (rest x0 x1 x2 3) (taken (book x1 3) (bookT x2 3) (rest x0 x1 x2 3)) x
      = ∑ d : Fin 32, ∑ b : Fin 2048, state (col x0 b) (books x1) ((x 1).val + 1) d * state (col x0 b) (books x1) ((x 1).val + 1) d := by
  have e (l : ℕ) (d : Fin 32) (b : Fin 2048) : rest x0 x1 x2 l (ix2 d b) - taken (book x1 l) (bookT x2 l) (rest x0 x1 x2 l) (ix2 d b)
      = state (col x0 b) (books x1) (l + 1) d := rest_at r0 r1 h2 (l + 1) (ix2 d b)
  have z : (k0_pay4 : FVec Ideal S1x4 .f32) x = 0 := by pointwise [k0_pay4]
  rw [counted_at 3#32 3 rfl (by omega), counted_at 2#32 2 rfl (by omega), counted_at 1#32 1 rfl (by omega),
    counted_at 0#32 0 rfl (by omega), z]
  simp only [e]
  have hx : (x 1).val < 4 := (x 1).isLt
  generalize (x 1).val = n at hx ⊢
  interval_cases n <;> simp

end Block

end Cert.KernelIdeal.Levels

end
-- ==== Proof.Points.lean ====
module

public import proofs.«01_k».proof.Proof.Levels

/-!
# What one grid point leaves in the result blocks

Each point writes four slabs of word numbers, four of words and five of remainders, and two copies
of the sum of the words; the losses it adds to what the point before it left.
-/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Levels Cert.Rows

namespace Cert.KernelIdeal.Value

variable (m : (ℓ : Loc nD τ sig) → Buf (Elt Ideal) ℓ)

/-- The columns of a point's block, and the two forms of the codebooks. -/
abbrev X0 (c : Dev nD) (t : Fin cfg0.N) : Vec Ideal S32x2048 .f32 := iblk m c 0 t
abbrev X1 (c : Dev nD) (t : Fin cfg0.N) : Vec Ideal S4x512x32 .f32 := iblk m c 1 t
abbrev X2 (c : Dev nD) (t : Fin cfg0.N) : Vec Ideal S4x32x512 .f32 := iblk m c 2 t

/-- Column `b` of a point's block before level `l`. -/
abbrev st (c : Dev nD) (t : Fin cfg0.N) (b : Fin 2048) (l : ℕ) : Row := state (col (X0 m c t) b) (books (X1 m c t)) l
abbrev wd (c : Dev nD) (t : Fin cfg0.N) (b : Fin 2048) (l : ℕ) : Row := word (col (X0 m c t) b) (books (X1 m c t)) l

/-- The first point is the only one that does not add to what is there. -/
theorem first {t : Fin cfg0.N} (h : t.val % 64 = 0) : ¬ 1 ≤ t.val := by
  have := lt_of_lt_of_eq t.isLt N_0; omega

theorem added_at (a b : FVec Ideal S1x4 .f32) (x : S1x4.Idx) : k0_pay1 a b x = b x + a x := by
  pointwise [k0_pay1]

variable {m} {c : Dev nD} {t : Fin cfg0.N}
  (r0 : ∀ i, IsReal (X0 m c t i)) (r1 : ∀ i, IsReal (X1 m c t i))
  (hT : ∀ l d k, X2 m c t (ix3 l d k) = X1 m c t (ix3 l k d))
include r0 r1 hT

theorem code_slab (l : ℕ) (x : S1x2048.Idx) (y : S4x2048.Idx) (e0 : (y 0).val = l) (e1 : (y 1).val = (x 1).val) :
    chosen (book (X1 m c t) l) (rest (X0 m c t) (X1 m c t) (X2 m c t) l) x
      = BitVec.ofNat 32 (code (col (X0 m c t) (y 1)) (books (X1 m c t)) (y 0).val).val := by
  rw [e0, show y 1 = x 1 from Fin.ext e1]
  exact chosen_rest r0 r1 hT l x

theorem codes_at (y : S4x2048.Idx) : (outsAt0 m c t.val t.isLt).1 y
    = BitVec.ofNat 32 (code (col (X0 m c t) (y 1)) (books (X1 m c t)) (y 0).val).val := by
  by_cases h : t.val % 64 = 0
  · rw [outsAt0_A m c t h (first h)]
    frame_out
    canon_tiles x g
    exacts [code_slab r0 r1 hT 3 x y (by omega) g1,
      code_slab r0 r1 hT 2 x y (by omega) g1,
      code_slab r0 r1 hT 1 x y (by omega) g1,
      code_slab r0 r1 hT 0 x y (by omega) g1]
  · rw [outsAt0_B m c t h (by omega)]
    frame_out
    canon_tiles x g
    exacts [code_slab r0 r1 hT 3 x y (by omega) g1,
      code_slab r0 r1 hT 2 x y (by omega) g1,
      code_slab r0 r1 hT 1 x y (by omega) g1,
      code_slab r0 r1 hT 0 x y (by omega) g1]

theorem word_slab (l : ℕ) (x : S1x32x2048.Idx) (y : S4x32x2048.Idx) (e0 : (y 0).val = l) (e1 : (y 1).val = (x 1).val)
    (e2 : (y 2).val = (x 2).val) :
    shapeCast S1x32x2048 (taken (book (X1 m c t) l) (bookT (X2 m c t) l) (rest (X0 m c t) (X1 m c t) (X2 m c t) l))
      shapeCasts_S32x2048_S1x32x2048 x = wd m c t (y 2) (y 0).val (y 1) := by
  rw [e0, show y 1 = x 1 from Fin.ext e1, show y 2 = x 2 from Fin.ext e2]
  refine Eq.trans ?_ (taken_rest r0 r1 hT l (ix2 (x 1) (x 2)))
  pointwise
  blk_ext

theorem words_at (y : S4x32x2048.Idx) : (outsAt0 m c t.val t.isLt).2.1 y = wd m c t (y 2) (y 0).val (y 1) := by
  by_cases h : t.val % 64 = 0
  · rw [outsAt0_A m c t h (first h)]
    frame_out
    canon_tiles x g
    exacts [word_slab r0 r1 hT 3 x y (by omega) g1 g2,
      word_slab r0 r1 hT 2 x y (by omega) g1 g2,
      word_slab r0 r1 hT 1 x y (by omega) g1 g2,
      word_slab r0 r1 hT 0 x y (by omega) g1 g2]
  · rw [outsAt0_B m c t h (by omega)]
    frame_out
    canon_tiles x g
    exacts [word_slab r0 r1 hT 3 x y (by omega) g1 g2,
      word_slab r0 r1 hT 2 x y (by omega) g1 g2,
      word_slab r0 r1 hT 1 x y (by omega) g1 g2,
      word_slab r0 r1 hT 0 x y (by omega) g1 g2]

theorem rest_slab (l : ℕ) (x : S1x32x2048.Idx) (y : S5x32x2048.Idx) (e0 : (y 0).val = l) (e1 : (y 1).val = (x 1).val)
    (e2 : (y 2).val = (x 2).val) :
    shapeCast S1x32x2048 (rest (X0 m c t) (X1 m c t) (X2 m c t) l)
      shapeCasts_S32x2048_S1x32x2048 x = st m c t (y 2) (y 0).val (y 1) := by
  rw [e0, show y 1 = x 1 from Fin.ext e1, show y 2 = x 2 from Fin.ext e2]
  refine Eq.trans ?_ (rest_at r0 r1 hT l (ix2 (x 1) (x 2)))
  pointwise
  blk_ext

theorem rests_at (y : S5x32x2048.Idx) : (outsAt0 m c t.val t.isLt).2.2.2.2.1 y = st m c t (y 2) (y 0).val (y 1) := by
  by_cases h : t.val % 64 = 0
  · rw [outsAt0_A m c t h (first h)]
    frame_out
    canon_tiles x g
    exacts [rest_slab r0 r1 hT 4 x y (by omega) g1 g2,
      rest_slab r0 r1 hT 3 x y (by omega) g1 g2,
      rest_slab r0 r1 hT 2 x y (by omega) g1 g2,
      rest_slab r0 r1 hT 1 x y (by omega) g1 g2,
      rest_slab r0 r1 hT 0 x y (by omega) g1 g2]
  · rw [outsAt0_B m c t h (by omega)]
    frame_out
    canon_tiles x g
    exacts [rest_slab r0 r1 hT 4 x y (by omega) g1 g2,
      rest_slab r0 r1 hT 3 x y (by omega) g1 g2,
      rest_slab r0 r1 hT 2 x y (by omega) g1 g2,
      rest_slab r0 r1 hT 1 x y (by omega) g1 g2,
      rest_slab r0 r1 hT 0 x y (by omega) g1 g2]

/-- The sum of the four words, put onto the row the long way round. -/
theorem total_block (y : S32x2048.Idx) :
    addf (k0_pay2 (X0 m c t)) (subf (addf (addf (addf (addf k0_pay3
      (taken (book (X1 m c t) 0) (bookT (X2 m c t) 0) (rest (X0 m c t) (X1 m c t) (X2 m c t) 0)))
      (taken (book (X1 m c t) 1) (bookT (X2 m c t) 1) (rest (X0 m c t) (X1 m c t) (X2 m c t) 1)))
      (taken (book (X1 m c t) 2) (bookT (X2 m c t) 2) (rest (X0 m c t) (X1 m c t) (X2 m c t) 2)))
      (taken (book (X1 m c t) 3) (bookT (X2 m c t) 3) (rest (X0 m c t) (X1 m c t) (X2 m c t) 3))) (k0_pay2 (X0 m c t))) y
      = total (col (X0 m c t) (y 1)) (books (X1 m c t)) (y 0) := by
  have z : (k0_pay3 : FVec Ideal S32x2048 .f32) y = 0 := by pointwise [k0_pay3]
  have q (l : ℕ) := taken_rest r0 r1 hT l y
  have x : k0_pay2 (X0 m c t) y = col (X0 m c t) (y 1) (y 0) := rest_at r0 r1 hT 0 y
  show k0_pay2 (X0 m c t) y + ((((k0_pay3 y + _) + _) + _ + _) - k0_pay2 (X0 m c t) y) = _
  rw [z, x, q 0, q 1, q 2, q 3, zero_add]
  unfold total
  rw [Fin.sum_univ_four]
  rfl

theorem total_at (y : S32x2048.Idx) : (outsAt0 m c t.val t.isLt).2.2.1 y
    = total (col (X0 m c t) (y 1)) (books (X1 m c t)) (y 0) := by
  by_cases h : t.val % 64 = 0
  · rw [outsAt0_A m c t h (first h)]
    frame_out
    exact total_block r0 r1 hT y
  · rw [outsAt0_B m c t h (by omega)]
    frame_out
    exact total_block r0 r1 hT y

theorem total_at' (y : S32x2048.Idx) : (outsAt0 m c t.val t.isLt).2.2.2.1 y
    = total (col (X0 m c t) (y 1)) (books (X1 m c t)) (y 0) := by
  by_cases h : t.val % 64 = 0
  · rw [outsAt0_A m c t h (first h)]
    frame_out
    exact total_block r0 r1 hT y
  · rw [outsAt0_B m c t h (by omega)]
    frame_out
    exact total_block r0 r1 hT y

/-- A point's share of the loss of each level. -/
theorem loss_first (h : t.val % 64 = 0) (x : S1x4.Idx) : (outsAt0 m c t.val t.isLt).2.2.2.2.2 x
    = ∑ d : Fin 32, ∑ b : Fin 2048, st m c t b ((x 1).val + 1) d * st m c t b ((x 1).val + 1) d := by
  rw [outsAt0_A m c t h (first h)]
  frame_out
  exact counted_rest r0 r1 hT x

theorem loss_step (h : ¬ t.val % 64 = 0) (x : S1x4.Idx) : (outsAt0 m c t.val t.isLt).2.2.2.2.2 x
    = (outsAt0 m c (t.val - 1) (Nat.lt_of_le_of_lt (Nat.sub_le _ _) t.isLt)).2.2.2.2.2 x
      + ∑ d : Fin 32, ∑ b : Fin 2048, st m c t b ((x 1).val + 1) d * st m c t b ((x 1).val + 1) d := by
  rw [outsAt0_B m c t h (by omega)]
  frame_out
  refine (added_at _ _ x).trans (congrArg _ (counted_rest r0 r1 hT x))

end Cert.KernelIdeal.Value

end
-- ==== Proof.Arrays.lean ====
module

public import proofs.«01_k».proof.Proof.Points

/-!
# The arrays the grid leaves

Point `t` holds the rows `2048 t` to `2048 t + 2047` of the argument, one in each column. So the
result blocks are pieces of one array each, stated here through the rows of the argument; the
four losses are sums over all the rows.
-/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Levels Cert.Rows

namespace Cert.KernelIdeal.Value

/-- Row `i` of the argument. -/
def row (z : Vec Ideal S131072x32 .f32) (i : Fin 131072) : Row := fun d => z (ix2 i d)

/-- The sum, over all rows, of the squares of what is left after level `l`. -/
def spent (z : Vec Ideal S131072x32 .f32) (C : Vec Ideal S4x512x32 .f32) (l : ℕ) : EReal :=
  ∑ i : Fin 131072, ∑ d : Fin 32, state (row z i) (books C) (l + 1) d * state (row z i) (books C) (l + 1) d

variable (m : (ℓ : Loc nD τ sig) → Buf (Elt Ideal) ℓ) (c : Dev nD)

/-- The two arguments. -/
abbrev Z : Vec Ideal S131072x32 .f32 := m ((c : Thread nD τ).loc main_arg0)
abbrev C : Vec Ideal S4x512x32 .f32 := m ((c : Thread nD τ).loc main_arg1)

theorem idx : ∀ t : Fin cfg0.N, win0_0.index t = ![0, t.val] ∧ win0_1.index t = ![0, 0, 0]
    ∧ win0_2.index t = ![0, 0, 0] ∧ win0_3.index t = ![0, t.val] ∧ win0_4.index t = ![0, 0, t.val]
    ∧ win0_5.index t = ![0, t.val] ∧ win0_6.index t = ![0, t.val] ∧ win0_7.index t = ![0, 0, t.val]
    ∧ win0_8.index t = ![0, 0] := (by decide +kernel : ∀ t : Fin grid0.N, _)

/-- The row of the argument in column `b` of point `t`. -/
def place (t : Fin cfg0.N) (b : Fin 2048) : Fin 131072 :=
  ⟨t.val * 2048 + b.val, by have := lt_of_lt_of_eq t.isLt N_0; omega⟩

theorem entry0 : V m c main_v0 = transpose S32x131072 [1, 0] (Z m c) transposes_S131072x32_S32x131072_1_0 := by
  show StableHlo.after hostOps0 (fun b => m (c, b)) (Proc.devRef .tc main_v0) = _
  simp only [hostOps0, StableHlo.after_cons, StableHlo.after_nil]
  after_results_simp

theorem entry1 : V m c main_v1 = transpose S4x32x512 [0, 2, 1] (C m c) transposes_S4x512x32_S4x32x512_0_2_1 := by
  show StableHlo.after hostOps0 (fun b => m (c, b)) (Proc.devRef .tc main_v1) = _
  simp only [hostOps0, StableHlo.after_cons, StableHlo.after_nil]
  after_results_simp

theorem X0_at (t : Fin cfg0.N) (d : Fin 32) (b : Fin 2048) : X0 m c t (ix2 d b) = Z m c (ix2 (place t b) d) := by
  show V m c main_v0 (((cfg0.win 0).blk t).view.emb (ix2 d b)) = _
  rw [entry0]
  unfold place
  pointwise
  blk_ext [idx t]

theorem X1_eq (t : Fin cfg0.N) : X1 m c t = C m c := by
  blk_ext! [iblk, V, idx t]

theorem X2_at (t : Fin cfg0.N) (l : Fin 4) (d : Fin 32) (k : Fin 512) :
    X2 m c t (ix3 l d k) = X1 m c t (ix3 l k d) := by
  rw [X1_eq]
  show V m c main_v1 (((cfg0.win 2).blk t).view.emb (ix3 l d k)) = _
  rw [entry1]
  pointwise
  blk_ext [idx t]

theorem col_eq (t : Fin cfg0.N) (b : Fin 2048) : col (X0 m c t) b = row (Z m c) (place t b) :=
  funext fun d => X0_at m c t d b

variable {m} {c}

/-- What is asked of the arguments: every entry is a number. -/
def Real (z : Vec Ideal S131072x32 .f32) (C : Vec Ideal S4x512x32 .f32) : Prop := (∀ i, IsReal (z i)) ∧ ∀ i, IsReal (C i)

variable (hr : Real (Z m c) (C m c))
include hr

theorem real0 (t : Fin cfg0.N) (i : S32x2048.Idx) : IsReal (X0 m c t i) := by
  have e : i = ix2 (i 0) (i 1) := by funext a; match a with | 0 => rfl | 1 => rfl
  rw [e]
  exact (X0_at m c t (i 0) (i 1)).symm ▸ hr.1 _

theorem real1 (t : Fin cfg0.N) (i : S4x512x32.Idx) : IsReal (X1 m c t i) := by
  rw [X1_eq]
  exact hr.2 i

omit hr in
/-- Whatever is computed from a column and the codebooks of a point is computed from the row and the arguments. -/
theorem carry {α : Type} (f : Row → (ℕ → Book) → ℕ → Fin 32 → α) {t : Fin cfg0.N} {b : Fin 2048} {j : Fin 131072}
    {l l' : ℕ} {d d' : Fin 32} (hj : j.val = t.val * 2048 + b.val) (hl : l = l') (hd : d.val = d'.val) :
    f (col (X0 m c t) b) (books (X1 m c t)) l' d' = f (row (Z m c) j) (books (C m c)) l d := by
  rw [col_eq, X1_eq, show j = place t b from Fin.ext hj, hl, show d = d' from Fin.ext hd]

theorem codes_in (t : Fin cfg0.N) (y : S4x2048.Idx) (i : S4x131072.Idx) (e0 : (i 0).val = (y 0).val)
    (e1 : (i 1).val = t.val * 2048 + (y 1).val) : (outsAt0 m c t.val t.isLt).1 y
      = BitVec.ofNat 32 (code (row (Z m c) (i 1)) (books (C m c)) (i 0).val).val :=
  (codes_at (real0 hr t) (real1 hr t) (X2_at m c t) y).trans
    (carry (fun r B l _ => BitVec.ofNat 32 (code r B l).val) (d := 0) (d' := 0) e1 e0 rfl)

theorem words_in (t : Fin cfg0.N) (y : S4x32x2048.Idx) (i : S4x32x131072.Idx) (e0 : (i 0).val = (y 0).val)
    (e1 : (i 1).val = (y 1).val) (e2 : (i 2).val = t.val * 2048 + (y 2).val) : (outsAt0 m c t.val t.isLt).2.1 y
      = word (row (Z m c) (i 2)) (books (C m c)) (i 0).val (i 1) :=
  (words_at (real0 hr t) (real1 hr t) (X2_at m c t) y).trans (carry word e2 e0 e1)

theorem rests_in (t : Fin cfg0.N) (y : S5x32x2048.Idx) (i : S5x32x131072.Idx) (e0 : (i 0).val = (y 0).val)
    (e1 : (i 1).val = (y 1).val) (e2 : (i 2).val = t.val * 2048 + (y 2).val) :
    (outsAt0 m c t.val t.isLt).2.2.2.2.1 y = state (row (Z m c) (i 2)) (books (C m c)) (i 0).val (i 1) :=
  (rests_at (real0 hr t) (real1 hr t) (X2_at m c t) y).trans (carry state e2 e0 e1)

theorem total_in (t : Fin cfg0.N) (y : S32x2048.Idx) (i : S32x131072.Idx) (e0 : (i 0).val = (y 0).val)
    (e1 : (i 1).val = t.val * 2048 + (y 1).val) :
    (outsAt0 m c t.val t.isLt).2.2.1 y = total (row (Z m c) (i 1)) (books (C m c)) (i 0)
      ∧ (outsAt0 m c t.val t.isLt).2.2.2.1 y = total (row (Z m c) (i 1)) (books (C m c)) (i 0) :=
  have e := carry (m := m) (c := c) (fun r B _ d => total r B d) (l := 0) (l' := 0) e1 rfl e0
  ⟨(total_at (real0 hr t) (real1 hr t) (X2_at m c t) y).trans e,
    (total_at' (real0 hr t) (real1 hr t) (X2_at m c t) y).trans e⟩

theorem codes_end : (dats m 0 c).arrAt 3 (cfgs 0).N = (fun i => BitVec.ofNat 32
    (code (row (Z m c) (i 1)) (books (C m c)) (i 0).val).val : IVec S4x131072 32) := by
  refine (dats m 0 c).arrAt_eq_of_covers 3 _ (by decide +kernel) fun t hf y => ?_
  rw [after0_3]
  exact codes_in hr t y _ (by blk_simp [idx t]) (by blk_simp [idx t])

theorem words_end : (dats m 0 c).arrAt 4 (cfgs 0).N
    = (fun i => word (row (Z m c) (i 2)) (books (C m c)) (i 0).val (i 1) : Vec Ideal S4x32x131072 .f32) := by
  refine (dats m 0 c).arrAt_eq_of_covers 4 _ (by decide +kernel) fun t hf y => ?_
  rw [after0_4]
  exact words_in hr t y _ (by blk_simp [idx t]) (by blk_simp [idx t]) (by blk_simp [idx t])

theorem total_end : (dats m 0 c).arrAt 5 (cfgs 0).N
    = (fun i => total (row (Z m c) (i 1)) (books (C m c)) (i 0) : Vec Ideal S32x131072 .f32) := by
  refine (dats m 0 c).arrAt_eq_of_covers 5 _ (by decide +kernel) fun t hf y => ?_
  rw [after0_5]
  exact (total_in hr t y _ (by blk_simp [idx t]) (by blk_simp [idx t])).1

theorem total_end' : (dats m 0 c).arrAt 6 (cfgs 0).N
    = (fun i => total (row (Z m c) (i 1)) (books (C m c)) (i 0) : Vec Ideal S32x131072 .f32) := by
  refine (dats m 0 c).arrAt_eq_of_covers 6 _ (by decide +kernel) fun t hf y => ?_
  rw [after0_6]
  exact (total_in hr t y _ (by blk_simp [idx t]) (by blk_simp [idx t])).2

theorem rests_end : (dats m 0 c).arrAt 7 (cfgs 0).N
    = (fun i => state (row (Z m c) (i 2)) (books (C m c)) (i 0).val (i 1) : Vec Ideal S5x32x131072 .f32) := by
  refine (dats m 0 c).arrAt_eq_of_covers 7 _ (by decide +kernel) fun t hf y => ?_
  rw [after0_7]
  exact rests_in hr t y _ (by blk_simp [idx t]) (by blk_simp [idx t]) (by blk_simp [idx t])

/-- What point `t` adds to entry `x` of the losses. -/
def share (z : Vec Ideal S131072x32 .f32) (C : Vec Ideal S4x512x32 .f32) (t : Fin cfg0.N) (x : S1x4.Idx) : EReal :=
  ∑ d : Fin 32, ∑ b : Fin 2048, state (row z (place t b)) (books C) ((x 1).val + 1) d
    * state (row z (place t b)) (books C) ((x 1).val + 1) d

omit hr in
theorem share_eq (t : Fin cfg0.N) (x : S1x4.Idx) : (∑ d : Fin 32, ∑ b : Fin 2048,
    st m c t b ((x 1).val + 1) d * st m c t b ((x 1).val + 1) d) = share (Z m c) (C m c) t x := by
  unfold share st
  simp only [col_eq, X1_eq]

omit hr in
theorem spent_eq (z : Vec Ideal S131072x32 .f32) (C : Vec Ideal S4x512x32 .f32) (x : S1x4.Idx) :
    ∑ t : Fin cfg0.N, share z C t x = spent z C (x 1).val := by
  unfold spent share
  simp only [Finset.sum_comm (s := (Finset.univ : Finset (Fin 32)))]
  exact Fin.sum_mul_add_congr (fun s k hl => rfl) (by rw [show cfg0.N = 64 from N_0])

theorem losses_last (t : Fin cfg0.N) (ht : t.val + 1 = cfg0.N) (x : S1x4.Idx) :
    (outsAt0 m c t.val t.isLt).2.2.2.2.2 x = spent (Z m c) (C m c) (x 1).val := by
  refine (Pipeline.eq_sum_fin_of_reset_step_apply_last (fun n h => (outsAt0 m c n h).2.2.2.2.2) 64 (fun _ => (0 : EReal))
    (share (Z m c) (C m c)) (fun t h x => ?_) (fun t h x => ?_) (le_of_eq N_0) t ht x).trans ?_
  · rw [zero_add, ← share_eq]
    exact loss_first (real0 hr t) (real1 hr t) (X2_at m c t) h x
  · rw [← share_eq]
    exact loss_step (real0 hr t) (real1 hr t) (X2_at m c t) h x
  · rw [zero_add]
    exact spent_eq _ _ x

theorem losses_end : (dats m 0 c).arrAt 8 (cfgs 0).N
    = (fun i => spent (Z m c) (C m c) (i 1).val : Vec Ideal S1x4 .f32) := by
  refine (dats m 0 c).arrAt_eq_of_covers 8 _ (by decide +kernel) fun t hf y => ?_
  have ht := (flush0_8 t).mp hf
  have hN := lt_of_lt_of_eq t.isLt N_0
  rw [after0_8]
  refine (losses_last hr t ((show t.val + 1 = 64 by omega).trans N_0.symm) y).trans (congrArg (spent (Z m c) (C m c)) ?_)
  blk_simp [idx t]

end Cert.KernelIdeal.Value
-- ==== Proof.KernelRun.lean ====
module

public import proofs.«01_k».proof.Proof.Arrays

/-!
# What the kernel leaves in its results

After the grid the arrays are turned back, and the four losses are divided by the number of entries and averaged.
-/

@[expose] public section

set_option maxRecDepth 16384

noncomputable section

open Idealize.ShloMosaic Idealize.ShloMosaic.TcCoe Idealize.SL.Sem
open Cert.KernelIdeal Cert.KernelIdeal.Gen Cert.KernelIdeal.Levels Cert.Rows

namespace Cert.KernelIdeal.Value

/-- The mean over the levels of the losses, each divided by the number of entries. -/
def meanLoss (a : FVec Ideal S1x4 .f32) : FVec Ideal S_ .f32 :=
  Host.divf (Host.reduceAdd (Host.divf (shapeCast S4 a shapeCasts_S1x4_S4)
    (broadcastInDim S4 ![] bcast_S_S4 (constant S_ .f32 0x4A800000#32))) (constant S_ .f32 0x00000000#32) reducesTo_S4_S_d0 h_S_)
    (constant S_ .f32 0x40800000#32)

/-- A quarter of a number and the number. -/
def fiveQuarters (a : FVec Ideal S_ .f32) : FVec Ideal S_ .f32 := addf (mulf (constant S_ .f32 0x3E800000#32) a) a

variable (m : (ℓ : Loc nD τ sig) → Buf (Elt Ideal) ℓ) (ρ : Dev nD → PrngReg)

/-- What the buffers of a core hold when the grid is done. -/
abbrev out (c : Dev nD) : Valuation τ sig (Elt Ideal) :=
  Pipeline.withArrays (cfgs 0).spec c (V0 m c) fun w => (dats m 0 c).arrAt w (cfgs 0).N

theorem out_arr (c : Dev nD) (w : Fin 9) :
    out m c (Proc.devRef .tc (Pipeline.arrRef (cfgs 0).spec w)) = (dats m 0 c).arrAt w (cfgs 0).N :=
  Pipeline.withArrays_arr (cfgs 0).spec winFacts0.arr_inj c _ _ w

theorem out3 (c : Dev nD) : out m c (Proc.devRef .tc main_v2_0) = (dats m 0 c).arrAt 3 (cfgs 0).N := out_arr m c 3
theorem out4 (c : Dev nD) : out m c (Proc.devRef .tc main_v2_1) = (dats m 0 c).arrAt 4 (cfgs 0).N := out_arr m c 4
theorem out5 (c : Dev nD) : out m c (Proc.devRef .tc main_v2_2) = (dats m 0 c).arrAt 5 (cfgs 0).N := out_arr m c 5
theorem out6 (c : Dev nD) : out m c (Proc.devRef .tc main_v2_3) = (dats m 0 c).arrAt 6 (cfgs 0).N := out_arr m c 6
theorem out7 (c : Dev nD) : out m c (Proc.devRef .tc main_v2_4) = (dats m 0 c).arrAt 7 (cfgs 0).N := out_arr m c 7
theorem out8 (c : Dev nD) : out m c (Proc.devRef .tc main_v2_5) = (dats m 0 c).arrAt 8 (cfgs 0).N := out_arr m c 8

section
variable (W : Valuation τ sig (Elt Ideal))

theorem tail3 : StableHlo.after hostOps1 W (Proc.devRef .tc main_v3)
    = transpose S131072x4 [1, 0] (W (Proc.devRef .tc main_v2_0)) transposes_S4x131072_S131072x4_1_0 := by
  simp only [hostOps1, StableHlo.after_cons, StableHlo.after_nil]
  after_results_simp

theorem tail4 : StableHlo.after hostOps1 W (Proc.devRef .tc main_v4)
    = transpose S131072x4x32 [2, 0, 1] (W (Proc.devRef .tc main_v2_1)) transposes_S4x32x131072_S131072x4x32_2_0_1 := by
  simp only [hostOps1, StableHlo.after_cons, StableHlo.after_nil]
  after_results_simp

theorem tail5 : StableHlo.after hostOps1 W (Proc.devRef .tc main_v5)
    = transpose S131072x32 [1, 0] (W (Proc.devRef .tc main_v2_2)) transposes_S32x131072_S131072x32_1_0 := by
  simp only [hostOps1, StableHlo.after_cons, StableHlo.after_nil]
  after_results_simp

theorem tail6 : StableHlo.after hostOps1 W (Proc.devRef .tc main_v6)
    = transpose S131072x32 [1, 0] (W (Proc.devRef .tc main_v2_3)) transposes_S32x131072_S131072x32_1_0 := by
  simp only [hostOps1, StableHlo.after_cons, StableHlo.after_nil]
  after_results_simp

theorem tail7 : StableHlo.after hostOps1 W (Proc.devRef .tc main_v7)
    = transpose S131072x5x32 [2, 0, 1] (W (Proc.devRef .tc main_v2_4)) transposes_S5x32x131072_S131072x5x32_2_0_1 := by
  simp only [hostOps1, StableHlo.after_cons, StableHlo.after_nil]
  after_results_simp

theorem tail12 : StableHlo.after hostOps1 W (Proc.devRef .tc main_v12) = meanLoss (W (Proc.devRef .tc main_v2_5)) := by
  simp only [hostOps1, StableHlo.after_cons, StableHlo.after_nil]
  after_results_simp
  rfl

theorem tail14 : StableHlo.after hostOps1 W (Proc.devRef .tc main_v14)
    = fiveQuarters (meanLoss (W (Proc.devRef .tc main_v2_5))) := by
  simp only [hostOps1, StableHlo.after_cons, StableHlo.after_nil]
  after_results_simp
  rfl

end

/-- A result of the lines after the grid holds what these lines compute from the arrays. -/
theorem result {r : PUnit × MemSt nD τ sig (Elt Ideal)}
    (h : Pipeline.FramePost cfgs (dats m) 0 (Pipeline.afterTail₀ cfgs (dats m) 0 (V0 m) [hostOps1]) r) (c : Dev nD)
    (b : Ref sig .tc) (hb : b ∈ Pipeline.restRefs sig (cfgs 0).spec) :
    r.2.mem ((c : Thread nD τ).loc b) = StableHlo.after hostOps1 (out m c) (Proc.devRef .tc b) := (h c).2 b hb

/-- The run of the kernel, its results read from the arrays that the grid leaves. -/
theorem run : θ_run defs (onTc (τ := τ) (main (F := Ideal))) ⟨m, fun _ => 0, ρ⟩ fun r => ∀ c : Dev nD,
    r.2.mem ((c : Thread nD τ).loc main_v3)
        = transpose S131072x4 [1, 0] ((dats m 0 c).arrAt 3 (cfgs 0).N) transposes_S4x131072_S131072x4_1_0
      ∧ r.2.mem ((c : Thread nD τ).loc main_v4)
        = transpose S131072x4x32 [2, 0, 1] ((dats m 0 c).arrAt 4 (cfgs 0).N) transposes_S4x32x131072_S131072x4x32_2_0_1
      ∧ r.2.mem ((c : Thread nD τ).loc main_v5)
        = transpose S131072x32 [1, 0] ((dats m 0 c).arrAt 5 (cfgs 0).N) transposes_S32x131072_S131072x32_1_0
      ∧ r.2.mem ((c : Thread nD τ).loc main_v6)
        = transpose S131072x32 [1, 0] ((dats m 0 c).arrAt 6 (cfgs 0).N) transposes_S32x131072_S131072x32_1_0
      ∧ r.2.mem ((c : Thread nD τ).loc main_v7)
        = transpose S131072x5x32 [2, 0, 1] ((dats m 0 c).arrAt 7 (cfgs 0).N) transposes_S5x32x131072_S131072x5x32_2_0_1
      ∧ r.2.mem ((c : Thread nD τ).loc main_v12) = meanLoss ((dats m 0 c).arrAt 8 (cfgs 0).N)
      ∧ r.2.mem ((c : Thread nD τ).loc main_v14) = fiveQuarters (meanLoss ((dats m 0 c).arrAt 8 (cfgs 0).N))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    refine ⟨?_, ?_, ?_, ?_, ?_, ?_, ?_, h.2 c⟩
    · rw [← out3, ← tail3]
      exact result m h.1 c main_v3 (Pipeline.mem_restRefs_of main_v3 (by decide) (by decide))
    · rw [← out4, ← tail4]
      exact result m h.1 c main_v4 (Pipeline.mem_restRefs_of main_v4 (by decide) (by decide))
    · rw [← out5, ← tail5]
      exact result m h.1 c main_v5 (Pipeline.mem_restRefs_of main_v5 (by decide) (by decide))
    · rw [← out6, ← tail6]
      exact result m h.1 c main_v6 (Pipeline.mem_restRefs_of main_v6 (by decide) (by decide))
    · rw [← out7, ← tail7]
      exact result m h.1 c main_v7 (Pipeline.mem_restRefs_of main_v7 (by decide) (by decide))
    · rw [← out8, ← tail12]
      exact result m h.1 c main_v12 (Pipeline.mem_restRefs_of main_v12 (by decide) (by decide))
    · rw [← out8, ← tail14]
      exact result m h.1 c main_v14 (Pipeline.mem_restRefs_of main_v14 (by decide) (by decide)))
    (θ_run_and (run_main m ρ) (unchanged m ρ))

end Cert.KernelIdeal.Value
-- ==== Proof.Program.lean ====
module

public import proofs.«01_k».proof.Proof.Gen.ReferenceIdeal
public import Idealize.ShloMosaic.Lib.StableHlo.Run
public import Idealize.ShloMosaic.Lib.Pipeline.Frame
public import Idealize.ShloMosaic.PureOps.Ideal

/-!
# The reference as a list of operations

The reference does the same thing four times over, to different buffers. So one list of operations
is written for a level, over a record of the buffers the level names; the reference is that list at
four records, followed by the operations that stack the results and average the losses.
-/

@[expose] public section

set_option maxRecDepth 16384

noncomputable section

open Idealize.ShloMosaic Idealize.ShloMosaic.TcCoe Idealize.SL.Sem Idealize.ShloMosaic.StableHlo
open Cert.ReferenceIdeal Cert.ReferenceIdeal.Gen

namespace Cert.ReferenceIdeal.Run

variable {F : FTy → Type} [FloatOps F]

/-! ## What a level computes -/

/-- The distances of all rows to all words, up to order: `|r|² + |w|² - 2 r·w`. -/
def dists (r : FVec F S131072x32 .f32) (b : FVec F S512x32 .f32) : FVec F S131072x512 .f32 :=
  subf (addf
      (broadcastInDim S131072x512 ![0, 1] bcast_S131072x1_S131072x512_0_1 (broadcastInDim S131072x1 ![0] bcast_S131072_S131072x1_0
        (Host.reduceAdd (mulf r r) (constant S_ .f32 0x00000000#32) reducesTo_S131072x32_S131072_d1 h_S_)))
      (broadcastInDim S131072x512 ![0, 1] bcast_S1x512_S131072x512_0_1 (broadcastInDim S1x512 ![1] bcast_S512_S1x512_1
        (Host.reduceAdd (mulf b b) (constant S_ .f32 0x00000000#32) reducesTo_S512x32_S512_d1 h_S_))))
    (mulf (broadcastInDim S131072x512 ![] bcast_S_S131072x512 (constant S_ .f32 0x40000000#32))
      (Host.dotGeneral dot_S131072x32_S32x512_S131072x512_1_0_0_1_n_n none r
        (transpose S32x512 [1, 0] b transposes_S512x32_S32x512_1_0)))

/-- The number of the first least entry of each row. -/
def first (d : FVec F S131072x512 .f32) : IVec S131072 32 := fun j =>
  (Host.argReduce reducer_argmin_f32_i32 d (iotaInDim S131072x512 32 1) (constant S_ .f32 0x7F800000#32)
    (constantI S_ 32 0#32) reducesTo_S131072x512_S131072_d1 h_S_ j).2

/-- A row number, a negative one counted from the end, as a column. -/
def wrapped (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 512#32))) i)

/-- The rows of `b` with the numbers `i`. -/
def picked (b : FVec F S512x32 .f32) (i : IVec S131072 32) : FVec F S131072x32 .f32 :=
  select (broadcastInDim S131072x32 ![0] bcast_S131072_S131072x32_0
      (Host.reduce IntOp.andi
        (andi (cmpi .sge (wrapped i) (broadcastInDim S131072x1 ![] bcast_S_S131072x1 (constantI S_ 32 0#32)))
          (cmpi .sle (wrapped i) (broadcastInDim S131072x1 ![0, 1] bcast_S1x1_S131072x1_0_1
            (broadcastInDim S1x1 ![1] bcast_S1_S1x1_1 (constantI S1 32 511#32)))))
        (constantI S_ 1 1#1) reducesTo_S131072x1_S131072_d1 h_S_))
    (Host.gather gather_S512x32_S131072x1_S131072x32_1_0_n_n_0_1_132 b (wrapped i))
    (broadcastInDim S131072x32 ![] bcast_S_S131072x32 (constant S_ .f32 0x7FC00000#32))

/-- The mean of the squares of `x - y`. -/
def meanSq (x y : FVec F S131072x32 .f32) : FVec F S_ .f32 :=
  Host.divf (Host.reduceAdd (mulf (subf x y) (subf x y)) (constant S_ .f32 0x00000000#32) reducesTo_S131072x32_S_d0_1 h_S_)
    (constant S_ .f32 0x4A800000#32)

/-- Codebook `off 0`. -/
def bookAt (off : Fin 3 → ℕ) (h : S4x512x32.Slices off S1x512x32) (x : FVec F S4x512x32 .f32) : FVec F S512x32 .f32 :=
  shapeCast S512x32 (extractStridedSlice S1x512x32 off x h) shapeCasts_S1x512x32_S512x32

/-! ## What is done with the four levels -/

def stack4 (a b c d : FVec F S131072x1x32 .f32) : FVec F S131072x4x32 .f32 :=
  concatenate S131072x4x32 1 [⟨S131072x1x32, a⟩, ⟨S131072x1x32, b⟩, ⟨S131072x1x32, c⟩, ⟨S131072x1x32, d⟩]
    concatenates_S131072x1x32_S131072x1x32_S131072x1x32_S131072x1x32_S131072x4x32_d1

def stack5 (a b c d e : FVec F S131072x1x32 .f32) : FVec F S131072x5x32 .f32 :=
  concatenate S131072x5x32 1
    [⟨S131072x1x32, a⟩, ⟨S131072x1x32, b⟩, ⟨S131072x1x32, c⟩, ⟨S131072x1x32, d⟩, ⟨S131072x1x32, e⟩]
    concatenates_S131072x1x32_S131072x1x32_S131072x1x32_S131072x1x32_S131072x1x32_S131072x5x32_d1

def codes4 (a b c d : IVec S131072x1 32) : IVec S131072x4 32 :=
  concatenate S131072x4 1 [⟨S131072x1, a⟩, ⟨S131072x1, b⟩, ⟨S131072x1, c⟩, ⟨S131072x1, d⟩]
    concatenates_S131072x1_S131072x1_S131072x1_S131072x1_S131072x4_d1

def four (a b c d : FVec F S1 .f32) : FVec F S4 .f32 :=
  concatenate S4 0 [⟨S1, a⟩, ⟨S1, b⟩, ⟨S1, c⟩, ⟨S1, d⟩] concatenates_S1_S1_S1_S1_S4_d0

/-- A page for the stack. -/
def page (a : FVec F S131072x32 .f32) : FVec F S131072x1x32 .f32 :=
  broadcastInDim S131072x1x32 ![0, 2] bcast_S131072x32_S131072x1x32_0_2 a

/-- The mean of four numbers. -/
def mean4 (a b c d : FVec F S_ .f32) : FVec F S_ .f32 :=
  Host.divf (Host.reduceAdd (four (broadcastInDim S1 ![] bcast_S_S1 a) (broadcastInDim S1 ![] bcast_S_S1 b)
    (broadcastInDim S1 ![] bcast_S_S1 c) (broadcastInDim S1 ![] bcast_S_S1 d)) (constant S_ .f32 0x00000000#32) reducesTo_S4_S_d0 h_S_)
    (constant S_ .f32 0x40800000#32)

/-- The four words, as they are added up and as they are stacked. -/
def words4 (a b c d : FVec F S131072x32 .f32) : FVec F S131072x4x32 .f32 := stack4 (page a) (page b) (page c) (page d)

/-- `z` plus what the sum of the words differs from it by. -/
def totals (z a b c d : FVec F S131072x32 .f32) : FVec F S131072x32 .f32 :=
  addf z (subf (Host.reduceAdd (words4 a b c d) (constant S_ .f32 0x00000000#32) reducesTo_S131072x4x32_S131072x32_d1 h_S_) z)

/-! ## The buffers and operations of a level -/

/-- The buffers a level names. -/
structure Level where
  a : TRef sig ⟨S1x512x32, .f32⟩
  b : TRef sig ⟨S512x32, .f32⟩
  s : TRef sig ⟨S131072x32, .f32⟩
  z0 : TRef sig ⟨S_, .f32⟩
  s1 : TRef sig ⟨S131072, .f32⟩
  s2 : TRef sig ⟨S131072x1, .f32⟩
  t : TRef sig ⟨S512x32, .f32⟩
  z1 : TRef sig ⟨S_, .f32⟩
  t1 : TRef sig ⟨S512, .f32⟩
  t2 : TRef sig ⟨S1x512, .f32⟩
  s3 : TRef sig ⟨S131072x512, .f32⟩
  t3 : TRef sig ⟨S131072x512, .f32⟩
  u : TRef sig ⟨S131072x512, .f32⟩
  bt : TRef sig ⟨S32x512, .f32⟩
  p : TRef sig ⟨S131072x512, .f32⟩
  two : TRef sig ⟨S_, .f32⟩
  two1 : TRef sig ⟨S131072x512, .f32⟩
  p2 : TRef sig ⟨S131072x512, .f32⟩
  d : TRef sig ⟨S131072x512, .f32⟩
  am : fn_argmin.Bufs
  tk : fn_take.Bufs
  e : TRef sig ⟨S131072x32, .f32⟩
  ee : TRef sig ⟨S131072x32, .f32⟩
  z2 : TRef sig ⟨S_, .f32⟩
  e1 : TRef sig ⟨S_, .f32⟩
  n2 : TRef sig ⟨S_, .f32⟩
  me : TRef sig ⟨S_, .f32⟩
  f : TRef sig ⟨S131072x32, .f32⟩
  ff : TRef sig ⟨S131072x32, .f32⟩
  z3 : TRef sig ⟨S_, .f32⟩
  f1 : TRef sig ⟨S_, .f32⟩
  n3 : TRef sig ⟨S_, .f32⟩
  mf : TRef sig ⟨S_, .f32⟩
  nx : TRef sig ⟨S131072x32, .f32⟩

/-- The operations of the search for the first least entry. -/
abbrev firstOps (x : TRef sig ⟨S131072x512, .f32⟩) (φ : fn_argmin.Bufs) : List (HloOp τ sig (Elt F)) :=
  [ TRef.nullary φ.v0 (iotaInDim S131072x512 32 1),
    TRef.nullary φ.cst (constant S_ .f32 0x7F800000#32),
    TRef.nullary φ.c (constantI S_ 32 0#32),
    TRef.quaternary x φ.v0 φ.cst φ.c φ.v1_0 (fun x y u v j => (Host.argReduce reducer_argmin_f32_i32 x y u v reducesTo_S131072x512_S131072_d1 h_S_ j).1),
    TRef.quaternary x φ.v0 φ.cst φ.c φ.v1_1 (fun x y u v j => (Host.argReduce reducer_argmin_f32_i32 x y u v reducesTo_S131072x512_S131072_d1 h_S_ j).2) ]

/-- The operations that pick rows. -/
abbrev pickOps (x : TRef sig ⟨S512x32, .f32⟩) (i : TRef sig ⟨S131072, .i32⟩) (φ : fn_take.Bufs) : List (HloOp τ sig (Elt F)) :=
  [ TRef.nullary φ.c (constantI S_ 32 0#32),
    TRef.unary φ.c φ.v0 (broadcastInDim S131072 ![] bcast_S_S131072),
    TRef.binary i φ.v0 φ.v1 (cmpi .slt),
    TRef.nullary φ.c_0 (constantI S_ 32 512#32),
    TRef.unary φ.c_0 φ.v2 (broadcastInDim S131072 ![] bcast_S_S131072),
    TRef.binary i φ.v2 φ.v3 addi,
    TRef.ternary φ.v1 φ.v3 i φ.call0.v0 select,
    TRef.unary φ.call0.v0 φ.v5 (broadcastInDim S131072x1 ![0] bcast_S131072_S131072x1_0),
    TRef.nullary φ.c_1 (constantI S1 32 511#32),
    TRef.nullary φ.c_2 (constantI S_ 32 0#32),
    TRef.unary φ.c_2 φ.v6 (broadcastInDim S131072x1 ![] bcast_S_S131072x1),
    TRef.binary φ.v5 φ.v6 φ.v7 (cmpi .sge),
    TRef.unary φ.c_1 φ.v8 (broadcastInDim S1x1 ![1] bcast_S1_S1x1_1),
    TRef.unary φ.v8 φ.v9 (broadcastInDim S131072x1 ![0, 1] bcast_S1x1_S131072x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S131072x1_S131072_d1 h_S_),
    TRef.binary x φ.v5 φ.v13 (fun x i => Host.gather gather_S512x32_S131072x1_S131072x32_1_0_n_n_0_1_132 x i),
    TRef.unary φ.v12 φ.v14 (broadcastInDim S131072x32 ![0] bcast_S131072_S131072x32_0),
    TRef.nullary φ.cst (constant S_ .f32 0x7FC00000#32),
    TRef.unary φ.cst φ.v15 (broadcastInDim S131072x32 ![] bcast_S_S131072x32),
    TRef.ternary φ.v14 φ.v13 φ.v15 φ.v16 select ]

/-- The operations before the search. -/
abbrev distOps (off : Fin 3 → ℕ) (h : S4x512x32.Slices off S1x512x32) (r : TRef sig ⟨S131072x32, .f32⟩) (φ : Level) :
    List (HloOp τ sig (Elt F)) :=
  [ TRef.unary (.of (T := ⟨S4x512x32, .f32⟩) main_arg1) φ.a (extractStridedSlice S1x512x32 off · h),
    TRef.reshape φ.a φ.b rfl shapeCasts_S1x512x32_S512x32,
    TRef.binary r r φ.s mulf,
    TRef.nullary φ.z0 (constant S_ .f32 0x00000000#32),
    TRef.binary φ.s φ.z0 φ.s1 (fun x v => Host.reduceAdd x v reducesTo_S131072x32_S131072_d1 h_S_),
    TRef.unary φ.s1 φ.s2 (broadcastInDim S131072x1 ![0] bcast_S131072_S131072x1_0),
    TRef.binary φ.b φ.b φ.t mulf,
    TRef.nullary φ.z1 (constant S_ .f32 0x00000000#32),
    TRef.binary φ.t φ.z1 φ.t1 (fun x v => Host.reduceAdd x v reducesTo_S512x32_S512_d1 h_S_),
    TRef.unary φ.t1 φ.t2 (broadcastInDim S1x512 ![1] bcast_S512_S1x512_1),
    TRef.unary φ.s2 φ.s3 (broadcastInDim S131072x512 ![0, 1] bcast_S131072x1_S131072x512_0_1),
    TRef.unary φ.t2 φ.t3 (broadcastInDim S131072x512 ![0, 1] bcast_S1x512_S131072x512_0_1),
    TRef.binary φ.s3 φ.t3 φ.u addf,
    TRef.unary φ.b φ.bt (transpose S32x512 [1, 0] · transposes_S512x32_S32x512_1_0),
    TRef.binary r φ.bt φ.p (fun l r => Host.dotGeneral dot_S131072x32_S32x512_S131072x512_1_0_0_1_n_n none l r),
    TRef.nullary φ.two (constant S_ .f32 0x40000000#32),
    TRef.unary φ.two φ.two1 (broadcastInDim S131072x512 ![] bcast_S_S131072x512),
    TRef.binary φ.two1 φ.p φ.p2 mulf,
    TRef.binary φ.u φ.p2 φ.d subf ]

/-- The operations after the words are picked. -/
abbrev lossOps (r : TRef sig ⟨S131072x32, .f32⟩) (φ : Level) : List (HloOp τ sig (Elt F)) :=
  [ TRef.binary r φ.tk.v16 φ.e subf,
    TRef.binary φ.e φ.e φ.ee mulf,
    TRef.nullary φ.z2 (constant S_ .f32 0x00000000#32),
    TRef.binary φ.ee φ.z2 φ.e1 (fun x v => Host.reduceAdd x v reducesTo_S131072x32_S_d0_1 h_S_),
    TRef.nullary φ.n2 (constant S_ .f32 0x4A800000#32),
    TRef.binary φ.e1 φ.n2 φ.me Host.divf,
    TRef.binary φ.tk.v16 r φ.f subf,
    TRef.binary φ.f φ.f φ.ff mulf,
    TRef.nullary φ.z3 (constant S_ .f32 0x00000000#32),
    TRef.binary φ.ff φ.z3 φ.f1 (fun x v => Host.reduceAdd x v reducesTo_S131072x32_S_d0_1 h_S_),
    TRef.nullary φ.n3 (constant S_ .f32 0x4A800000#32),
    TRef.binary φ.f1 φ.n3 φ.mf Host.divf,
    TRef.binary r φ.tk.v16 φ.nx subf ]

/-- The operations of a level. -/
abbrev levelOps (off : Fin 3 → ℕ) (h : S4x512x32.Slices off S1x512x32) (r : TRef sig ⟨S131072x32, .f32⟩) (φ : Level) :
    List (HloOp τ sig (Elt F)) :=
  distOps off h r φ ++ (firstOps φ.d φ.am ++ (pickOps φ.b φ.am.v1_1 φ.tk ++ lossOps r φ))

/-- The buffers the four levels name. -/
abbrev level0 : Level :=
  ⟨.of main_v0, .of main_v1, .of main_v2, .of main_cst, .of main_v3, .of main_v4, .of main_v5, .of main_cst_0, .of main_v6, .of main_v7, .of main_v8, .of main_v9,
    .of main_v10, .of main_v11, .of main_v12, .of main_cst_1, .of main_v13, .of main_v14, .of main_v15, main_call0, main_call1, .of main_v18, .of main_v19, .of main_cst_2,
    .of main_v20, .of main_cst_3, .of main_v21, .of main_v22, .of main_v23, .of main_cst_4, .of main_v24, .of main_cst_5, .of main_v25, .of main_v26⟩
abbrev level1 : Level :=
  ⟨.of main_v27, .of main_v28, .of main_v29, .of main_cst_6, .of main_v30, .of main_v31, .of main_v32, .of main_cst_7, .of main_v33, .of main_v34, .of main_v35, .of main_v36,
    .of main_v37, .of main_v38, .of main_v39, .of main_cst_8, .of main_v40, .of main_v41, .of main_v42, main_call2, main_call3, .of main_v45, .of main_v46, .of main_cst_9,
    .of main_v47, .of main_cst_10, .of main_v48, .of main_v49, .of main_v50, .of main_cst_11, .of main_v51, .of main_cst_12, .of main_v52, .of main_v53⟩
abbrev level2 : Level :=
  ⟨.of main_v54, .of main_v55, .of main_v56, .of main_cst_13, .of main_v57, .of main_v58, .of main_v59, .of main_cst_14, .of main_v60, .of main_v61, .of main_v62, .of main_v63,
    .of main_v64, .of main_v65, .of main_v66, .of main_cst_15, .of main_v67, .of main_v68, .of main_v69, main_call4, main_call5, .of main_v72, .of main_v73, .of main_cst_16,
    .of main_v74, .of main_cst_17, .of main_v75, .of main_v76, .of main_v77, .of main_cst_18, .of main_v78, .of main_cst_19, .of main_v79, .of main_v80⟩
abbrev level3 : Level :=
  ⟨.of main_v81, .of main_v82, .of main_v83, .of main_cst_20, .of main_v84, .of main_v85, .of main_v86, .of main_cst_21, .of main_v87, .of main_v88, .of main_v89, .of main_v90,
    .of main_v91, .of main_v92, .of main_v93, .of main_cst_22, .of main_v94, .of main_v95, .of main_v96, main_call6, main_call7, .of main_v99, .of main_v100, .of main_cst_23,
    .of main_v101, .of main_cst_24, .of main_v102, .of main_v103, .of main_v104, .of main_cst_25, .of main_v105, .of main_cst_26, .of main_v106, .of main_v107⟩

/-- The operations after the four levels. -/
abbrev endOps : List (HloOp τ sig (Elt F)) :=
  [ unary main_v17 main_v108 (broadcastInDim S131072x1x32 ![0, 2] bcast_S131072x32_S131072x1x32_0_2),
    unary main_v44 main_v109 (broadcastInDim S131072x1x32 ![0, 2] bcast_S131072x32_S131072x1x32_0_2),
    unary main_v71 main_v110 (broadcastInDim S131072x1x32 ![0, 2] bcast_S131072x32_S131072x1x32_0_2),
    unary main_v98 main_v111 (broadcastInDim S131072x1x32 ![0, 2] bcast_S131072x32_S131072x1x32_0_2),
    nary ![main_v108, main_v109, main_v110, main_v111] main_v112 (fun u => stack4 (u 0) (u 1) (u 2) (u 3)),
    nullary main_cst_27 (constant S_ .f32 0x00000000#32),
    binary main_v112 main_cst_27 main_v113 ((fun x v => Host.reduceAdd x v reducesTo_S131072x4x32_S131072x32_d1 h_S_)),
    binary main_v113 main_arg0 main_v114 (subf),
    binary main_arg0 main_v114 main_v115 (addf),
    unary main_v16 main_v116 (broadcastInDim S131072x1 ![0] bcast_S131072_S131072x1_0),
    unary main_v43 main_v117 (broadcastInDim S131072x1 ![0] bcast_S131072_S131072x1_0),
    unary main_v70 main_v118 (broadcastInDim S131072x1 ![0] bcast_S131072_S131072x1_0),
    unary main_v97 main_v119 (broadcastInDim S131072x1 ![0] bcast_S131072_S131072x1_0),
    nary ![main_v116, main_v117, main_v118, main_v119] main_v120 (fun u => codes4 (u 0) (u 1) (u 2) (u 3)),
    unary main_v21 main_v121 (broadcastInDim S1 ![] bcast_S_S1),
    unary main_v48 main_v122 (broadcastInDim S1 ![] bcast_S_S1),
    unary main_v75 main_v123 (broadcastInDim S1 ![] bcast_S_S1),
    unary main_v102 main_v124 (broadcastInDim S1 ![] bcast_S_S1),
    nary ![main_v121, main_v122, main_v123, main_v124] main_v125 (fun u => four (u 0) (u 1) (u 2) (u 3)),
    nullary main_cst_28 (constant S_ .f32 0x00000000#32),
    binary main_v125 main_cst_28 main_v126 ((fun x v => Host.reduceAdd x v reducesTo_S4_S_d0 h_S_)),
    nullary main_cst_29 (constant S_ .f32 0x40800000#32),
    binary main_v126 main_cst_29 main_v127 (Host.divf),
    unary main_v25 main_v128 (broadcastInDim S1 ![] bcast_S_S1),
    unary main_v52 main_v129 (broadcastInDim S1 ![] bcast_S_S1),
    unary main_v79 main_v130 (broadcastInDim S1 ![] bcast_S_S1),
    unary main_v106 main_v131 (broadcastInDim S1 ![] bcast_S_S1),
    nary ![main_v128, main_v129, main_v130, main_v131] main_v132 (fun u => four (u 0) (u 1) (u 2) (u 3)),
    nullary main_cst_30 (constant S_ .f32 0x00000000#32),
    binary main_v132 main_cst_30 main_v133 ((fun x v => Host.reduceAdd x v reducesTo_S4_S_d0 h_S_)),
    nullary main_cst_31 (constant S_ .f32 0x40800000#32),
    binary main_v133 main_cst_31 main_v134 (Host.divf),
    nullary main_cst_32 (constant S_ .f32 0x3E800000#32),
    binary main_cst_32 main_v127 main_v135 (mulf),
    binary main_v135 main_v134 main_v136 (addf),
    unary main_arg0 main_v137 (broadcastInDim S131072x1x32 ![0, 2] bcast_S131072x32_S131072x1x32_0_2),
    unary main_v26 main_v138 (broadcastInDim S131072x1x32 ![0, 2] bcast_S131072x32_S131072x1x32_0_2),
    unary main_v53 main_v139 (broadcastInDim S131072x1x32 ![0, 2] bcast_S131072x32_S131072x1x32_0_2),
    unary main_v80 main_v140 (broadcastInDim S131072x1x32 ![0, 2] bcast_S131072x32_S131072x1x32_0_2),
    unary main_v107 main_v141 (broadcastInDim S131072x1x32 ![0, 2] bcast_S131072x32_S131072x1x32_0_2),
    nary ![main_v137, main_v138, main_v139, main_v140, main_v141] main_v142 (fun u => stack5 (u 0) (u 1) (u 2) (u 3) (u 4)) ]

/-- All the operations. -/
abbrev ops : List (HloOp τ sig (Elt F)) :=
  levelOps ![0, 0, 0] slices_S4x512x32_S1x512x32_0_0_0 (.of main_arg0) level0
    ++ (levelOps ![1, 0, 0] slices_S4x512x32_S1x512x32_1_0_0 (.of main_v26) level1
    ++ (levelOps ![2, 0, 0] slices_S4x512x32_S1x512x32_2_0_0 (.of main_v53) level2
    ++ (levelOps ![3, 0, 0] slices_S4x512x32_S1x512x32_3_0_0 (.of main_v80) level3 ++ endOps)))

end Cert.ReferenceIdeal.Run
-- ==== Proof.RefRun.lean ====
module

public import proofs.«01_k».proof.Proof.Program

/-!
# The reference's run

The reference is the operations of its program in a row; what a level leaves in the buffers read
later is stated for each of the four.
-/

@[expose] public section

set_option maxRecDepth 65536

noncomputable section

open Idealize.ShloMosaic Idealize.ShloMosaic.TcCoe Idealize.SL.Sem Idealize.ShloMosaic.StableHlo
open Cert.ReferenceIdeal Cert.ReferenceIdeal.Gen

namespace Cert.ReferenceIdeal.Run

variable {F : FTy → Type} [FloatOps F]

set_option maxHeartbeats 4000000 in
theorem main_eq (c : Dev nD) : main (F := F) c = seq ops := rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- What a level leaves: the numbers of the words, the words, the two losses and what is left of the rows. -/
def Leaves (off : Fin 3 → ℕ) (h : S4x512x32.Slices off S1x512x32) (r : TRef sig ⟨S131072x32, .f32⟩) (φ : Level) : Prop :=
  ∀ V : Valuation τ sig (Elt F),
    let b : FVec F S512x32 .f32 := bookAt off h (V (Proc.devRef .tc main_arg1))
    let x : FVec F S131072x32 .f32 := r.ofBuf (V (Proc.devRef .tc r.ref))
    let i := first (dists x b)
    let V' := after (levelOps off h r φ) V
    φ.am.v1_1.ofBuf (V' (Proc.devRef .tc φ.am.v1_1.ref)) = i
      ∧ φ.tk.v16.ofBuf (V' (Proc.devRef .tc φ.tk.v16.ref)) = picked b i
      ∧ φ.me.ofBuf (V' (Proc.devRef .tc φ.me.ref)) = meanSq x (picked b i)
      ∧ φ.mf.ofBuf (V' (Proc.devRef .tc φ.mf.ref)) = meanSq (picked b i) x
      ∧ φ.nx.ofBuf (V' (Proc.devRef .tc φ.nx.ref)) = subf x (picked b i)

/-- The buffers a level writes. -/
def names (φ : Level) : List (Ref sig .tc) :=
  [ φ.a.ref, φ.b.ref, φ.s.ref, φ.z0.ref, φ.s1.ref, φ.s2.ref, φ.t.ref, φ.z1.ref, φ.t1.ref, φ.t2.ref, φ.s3.ref,
    φ.t3.ref, φ.u.ref, φ.bt.ref, φ.p.ref, φ.two.ref, φ.two1.ref, φ.p2.ref, φ.d.ref, φ.am.v0.ref, φ.am.cst.ref,
    φ.am.c.ref, φ.am.v1_0.ref, φ.am.v1_1.ref, φ.tk.c.ref, φ.tk.v0.ref, φ.tk.v1.ref, φ.tk.c_0.ref, φ.tk.v2.ref,
    φ.tk.v3.ref, φ.tk.call0.v0.ref, φ.tk.v5.ref, φ.tk.c_1.ref, φ.tk.c_2.ref, φ.tk.v6.ref, φ.tk.v7.ref,
    φ.tk.v8.ref, φ.tk.v9.ref, φ.tk.v10.ref, φ.tk.v11.ref, φ.tk.c_3.ref, φ.tk.v12.ref, φ.tk.v13.ref, φ.tk.v14.ref,
    φ.tk.cst.ref, φ.tk.v15.ref, φ.tk.v16.ref, φ.e.ref, φ.ee.ref, φ.z2.ref, φ.e1.ref, φ.n2.ref, φ.me.ref, φ.f.ref,
    φ.ff.ref, φ.z3.ref, φ.f1.ref, φ.n3.ref, φ.mf.ref, φ.nx.ref ]

theorem level_keep (off : Fin 3 → ℕ) (h : S4x512x32.Slices off S1x512x32) (r : TRef sig ⟨S131072x32, .f32⟩) (φ : Level)
    (V : Valuation τ sig (Elt F)) (b : Ref sig .tc) (hb : b ∉ names φ) :
    after (levelOps off h r φ) V (Proc.devRef .tc b) = V (Proc.devRef .tc b) :=
  after_of_writes_sub _ V (forall_writes_sub_of_map rfl) hb

theorem level_fresh (off : Fin 3 → ℕ) (h : S4x512x32.Slices off S1x512x32) (r : TRef sig ⟨S131072x32, .f32⟩) (φ : Level) :
    (levelOps (F := F) off h r φ).Forall fun op => op.fresh = ∅ := forall_fresh_of_map rfl

theorem level_sub (off : Fin 3 → ℕ) (h : S4x512x32.Slices off S1x512x32) (r : TRef sig ⟨S131072x32, .f32⟩) (φ : Level) :
    (levelOps (F := F) off h r φ).Forall fun op => op.bufs ⊆ tcRefs τ sig := by
  simp only [levelOps, distOps, firstOps, pickOps, lossOps, List.cons_append, List.nil_append, List.Forall, TRef.unary,
    TRef.binary, TRef.ternary, TRef.quaternary, TRef.nullary, TRef.reshape]
  repeat' apply And.intro
  all_goals with_reducible first
    | exact nullary_bufs_sub .. | exact unary_bufs_sub .. | exact binary_bufs_sub .. | exact reshape_bufs_sub ..
    | exact ternary_bufs_sub .. | exact quaternary_bufs_sub ..

theorem end_fresh : (endOps (F := F)).Forall fun op => op.fresh = ∅ := forall_fresh_of_map rfl

theorem end_sub : (endOps (F := F)).Forall fun op => op.bufs ⊆ tcRefs τ sig := by
  simp only [endOps, List.Forall]
  repeat' apply And.intro
  all_goals with_reducible first
    | exact nullary_bufs_sub .. | exact unary_bufs_sub .. | exact binary_bufs_sub .. | exact nary_bufs_sub ..

theorem ops_sub : (ops (F := F)).Forall fun op => op.bufs ⊆ tcRefs τ sig := by
  rw [List.forall_iff_forall_mem]
  intro op hop
  simp only [ops, List.mem_append] at hop
  rcases hop with h | h | h | h | h
  exacts [List.forall_iff_forall_mem.mp (level_sub ..) op (by simpa only [List.mem_append] using h),
    List.forall_iff_forall_mem.mp (level_sub ..) op (by simpa only [List.mem_append] using h),
    List.forall_iff_forall_mem.mp (level_sub ..) op (by simpa only [List.mem_append] using h),
    List.forall_iff_forall_mem.mp (level_sub ..) op (by simpa only [List.mem_append] using h),
    List.forall_iff_forall_mem.mp end_sub op h]

theorem ops_fresh : ∀ op ∈ (ops (F := F)), op.fresh = ∅ := by
  intro op hop
  simp only [ops, List.mem_append] at hop
  rcases hop with h | h | h | h | h
  exacts [List.forall_iff_forall_mem.mp (level_fresh ..) op (by simpa only [List.mem_append] using h),
    List.forall_iff_forall_mem.mp (level_fresh ..) op (by simpa only [List.mem_append] using h),
    List.forall_iff_forall_mem.mp (level_fresh ..) op (by simpa only [List.mem_append] using h),
    List.forall_iff_forall_mem.mp (level_fresh ..) op (by simpa only [List.mem_append] using h),
    List.forall_iff_forall_mem.mp end_fresh op h]

set_option maxHeartbeats 4000000 in
theorem leaves0 : Leaves (F := F) ![0, 0, 0] slices_S4x512x32_S1x512x32_0_0_0 (.of main_arg0) level0 := by
  intro V
  simp only [levelOps, distOps, firstOps, pickOps, lossOps, List.cons_append, List.nil_append, TRef.unary, TRef.binary,
    TRef.ternary, TRef.quaternary, TRef.nullary, TRef.reshape, TRef.toBuf, TRef.ofBuf, cast_eq, after_cons, after_nil]
  refine ⟨?_, ?_, ?_, ?_, ?_⟩ <;> (after_results_simp; rfl)

set_option maxHeartbeats 4000000 in
theorem leaves1 : Leaves (F := F) ![1, 0, 0] slices_S4x512x32_S1x512x32_1_0_0 (.of main_v26) level1 := by
  intro V
  simp only [levelOps, distOps, firstOps, pickOps, lossOps, List.cons_append, List.nil_append, TRef.unary, TRef.binary,
    TRef.ternary, TRef.quaternary, TRef.nullary, TRef.reshape, TRef.toBuf, TRef.ofBuf, cast_eq, after_cons, after_nil]
  refine ⟨?_, ?_, ?_, ?_, ?_⟩ <;> (after_results_simp; rfl)

set_option maxHeartbeats 4000000 in
theorem leaves2 : Leaves (F := F) ![2, 0, 0] slices_S4x512x32_S1x512x32_2_0_0 (.of main_v53) level2 := by
  intro V
  simp only [levelOps, distOps, firstOps, pickOps, lossOps, List.cons_append, List.nil_append, TRef.unary, TRef.binary,
    TRef.ternary, TRef.quaternary, TRef.nullary, TRef.reshape, TRef.toBuf, TRef.ofBuf, cast_eq, after_cons, after_nil]
  refine ⟨?_, ?_, ?_, ?_, ?_⟩ <;> (after_results_simp; rfl)

set_option maxHeartbeats 4000000 in
theorem leaves3 : Leaves (F := F) ![3, 0, 0] slices_S4x512x32_S1x512x32_3_0_0 (.of main_v80) level3 := by
  intro V
  simp only [levelOps, distOps, firstOps, pickOps, lossOps, List.cons_append, List.nil_append, TRef.unary, TRef.binary,
    TRef.ternary, TRef.quaternary, TRef.nullary, TRef.reshape, TRef.toBuf, TRef.ofBuf, cast_eq, after_cons, after_nil]
  refine ⟨?_, ?_, ?_, ?_, ?_⟩ <;> (after_results_simp; rfl)

set_option maxHeartbeats 4000000 in
/-- What the last operations leave, from what the levels left. -/
theorem end_leaves (V : Valuation τ sig (Elt F)) :
    let V' := after endOps V
    (V' (Proc.devRef .tc main_v120) : IVec S131072x4 32)
        = codes4 (broadcastInDim S131072x1 ![0] bcast_S131072_S131072x1_0 (V (Proc.devRef .tc main_v16) : IVec S131072 32))
            (broadcastInDim S131072x1 ![0] bcast_S131072_S131072x1_0 (V (Proc.devRef .tc main_v43) : IVec S131072 32))
            (broadcastInDim S131072x1 ![0] bcast_S131072_S131072x1_0 (V (Proc.devRef .tc main_v70) : IVec S131072 32))
            (broadcastInDim S131072x1 ![0] bcast_S131072_S131072x1_0 (V (Proc.devRef .tc main_v97) : IVec S131072 32))
      ∧ (V' (Proc.devRef .tc main_v112) : FVec F S131072x4x32 .f32)
        = words4 (V (Proc.devRef .tc main_v17)) (V (Proc.devRef .tc main_v44)) (V (Proc.devRef .tc main_v71)) (V (Proc.devRef .tc main_v98))
      ∧ (V' (Proc.devRef .tc main_v115) : FVec F S131072x32 .f32)
        = totals (V (Proc.devRef .tc main_arg0)) (V (Proc.devRef .tc main_v17)) (V (Proc.devRef .tc main_v44))
            (V (Proc.devRef .tc main_v71)) (V (Proc.devRef .tc main_v98))
      ∧ (V' (Proc.devRef .tc main_v142) : FVec F S131072x5x32 .f32)
        = stack5 (page (V (Proc.devRef .tc main_arg0))) (page (V (Proc.devRef .tc main_v26))) (page (V (Proc.devRef .tc main_v53)))
            (page (V (Proc.devRef .tc main_v80))) (page (V (Proc.devRef .tc main_v107)))
      ∧ (V' (Proc.devRef .tc main_v127) : FVec F S_ .f32)
        = mean4 (V (Proc.devRef .tc main_v21)) (V (Proc.devRef .tc main_v48)) (V (Proc.devRef .tc main_v75)) (V (Proc.devRef .tc main_v102))
      ∧ (V' (Proc.devRef .tc main_v134) : FVec F S_ .f32)
        = mean4 (V (Proc.devRef .tc main_v25)) (V (Proc.devRef .tc main_v52)) (V (Proc.devRef .tc main_v79)) (V (Proc.devRef .tc main_v106))
      ∧ (V' (Proc.devRef .tc main_v136) : FVec F S_ .f32)
        = addf (mulf (constant S_ .f32 0x3E800000#32) (mean4 (V (Proc.devRef .tc main_v21)) (V (Proc.devRef .tc main_v48))
              (V (Proc.devRef .tc main_v75)) (V (Proc.devRef .tc main_v102))))
            (mean4 (V (Proc.devRef .tc main_v25)) (V (Proc.devRef .tc main_v52)) (V (Proc.devRef .tc main_v79)) (V (Proc.devRef .tc main_v106))) := by
  simp only [endOps, after_cons, after_nil]
  refine ⟨?_, ?_, ?_, ?_, ?_, ?_, ?_⟩ <;>
    (after_results_simp; try (dsimp only [Matrix.cons_val]; after_results_simp)) <;> rfl

end Cert.ReferenceIdeal.Run
-- ==== Proof.RefChain.lean ====
module

public import proofs.«01_k».proof.Proof.RefRun

/-!
# What the reference leaves

The four levels follow one another: each starts from the rest the one before leaves, and none writes
over what an earlier one left.
-/

@[expose] public section

set_option maxRecDepth 65536

noncomputable section

open Idealize.ShloMosaic Idealize.ShloMosaic.TcCoe Idealize.SL.Sem Idealize.ShloMosaic.StableHlo
open Cert.ReferenceIdeal Cert.ReferenceIdeal.Gen

namespace Cert.ReferenceIdeal.Run

variable {F : FTy → Type} [FloatOps F]

/-- The codebooks of the four levels. -/
def book (x : FVec F S4x512x32 .f32) : ℕ → FVec F S512x32 .f32
  | 0 => bookAt ![0, 0, 0] slices_S4x512x32_S1x512x32_0_0_0 x
  | 1 => bookAt ![1, 0, 0] slices_S4x512x32_S1x512x32_1_0_0 x
  | 2 => bookAt ![2, 0, 0] slices_S4x512x32_S1x512x32_2_0_0 x
  | _ => bookAt ![3, 0, 0] slices_S4x512x32_S1x512x32_3_0_0 x

/-- What is left of the rows before level `l`. -/
def rest (z : FVec F S131072x32 .f32) (B : ℕ → FVec F S512x32 .f32) : ℕ → FVec F S131072x32 .f32
  | 0 => z
  | l + 1 => subf (rest z B l) (picked (B l) (first (dists (rest z B l) (B l))))

/-- The numbers of the words that level `l` takes. -/
def number (z : FVec F S131072x32 .f32) (B : ℕ → FVec F S512x32 .f32) (l : ℕ) : IVec S131072 32 := first (dists (rest z B l) (B l))

/-- The words that level `l` takes. -/
def taken (z : FVec F S131072x32 .f32) (B : ℕ → FVec F S512x32 .f32) (l : ℕ) : FVec F S131072x32 .f32 := picked (B l) (number z B l)

/-- What the buffers of a level hold, in terms of the rows and codebooks. -/
def Holds (V : Valuation τ sig (Elt F)) (φ : Level) (z : FVec F S131072x32 .f32) (B : ℕ → FVec F S512x32 .f32) (l : ℕ) : Prop :=
  φ.am.v1_1.ofBuf (V (Proc.devRef .tc φ.am.v1_1.ref)) = number z B l
    ∧ φ.tk.v16.ofBuf (V (Proc.devRef .tc φ.tk.v16.ref)) = taken z B l
    ∧ φ.me.ofBuf (V (Proc.devRef .tc φ.me.ref)) = meanSq (rest z B l) (taken z B l)
    ∧ φ.mf.ofBuf (V (Proc.devRef .tc φ.mf.ref)) = meanSq (taken z B l) (rest z B l)
    ∧ φ.nx.ofBuf (V (Proc.devRef .tc φ.nx.ref)) = rest z B (l + 1)

/-- A level that starts from the rest before it leaves its own. -/
theorem holds_after {off : Fin 3 → ℕ} {h : S4x512x32.Slices off S1x512x32} {r : TRef sig ⟨S131072x32, .f32⟩} {φ : Level}
    (hl : Leaves (F := F) off h r φ) (V : Valuation τ sig (Elt F)) {z : FVec F S131072x32 .f32} {B : ℕ → FVec F S512x32 .f32} {l : ℕ}
    (hr : r.ofBuf (V (Proc.devRef .tc r.ref)) = rest z B l) (hb : bookAt off h (V (Proc.devRef .tc main_arg1)) = B l) :
    Holds (after (levelOps off h r φ) V) φ z B l := by
  have h := hl V
  dsimp only at h
  rw [hr, hb] at h
  exact h

/-- What a level leaves is still there after another level that writes elsewhere. -/
theorem Holds.keep {V : Valuation τ sig (Elt F)} {φ : Level} {z : FVec F S131072x32 .f32} {B : ℕ → FVec F S512x32 .f32} {l : ℕ}
    (hv : Holds V φ z B l) (off : Fin 3 → ℕ) (h : S4x512x32.Slices off S1x512x32) (r : TRef sig ⟨S131072x32, .f32⟩) (ψ : Level)
    (hn : ∀ b ∈ [φ.am.v1_1.ref, φ.tk.v16.ref, φ.me.ref, φ.mf.ref, φ.nx.ref], b ∉ names ψ) :
    Holds (after (levelOps off h r ψ) V) φ z B l := by
  unfold Holds
  rw [level_keep off h r ψ V _ (hn φ.am.v1_1.ref (by simp)), level_keep off h r ψ V _ (hn φ.tk.v16.ref (by simp)),
    level_keep off h r ψ V _ (hn φ.me.ref (by simp)), level_keep off h r ψ V _ (hn φ.mf.ref (by simp)),
    level_keep off h r ψ V _ (hn φ.nx.ref (by simp))]
  exact hv

/-- The buffers after the four levels. -/
def levels (V : Valuation τ sig (Elt F)) : Valuation τ sig (Elt F) :=
  after (levelOps ![3, 0, 0] slices_S4x512x32_S1x512x32_3_0_0 (.of main_v80) level3)
    (after (levelOps ![2, 0, 0] slices_S4x512x32_S1x512x32_2_0_0 (.of main_v53) level2)
      (after (levelOps ![1, 0, 0] slices_S4x512x32_S1x512x32_1_0_0 (.of main_v26) level1)
        (after (levelOps ![0, 0, 0] slices_S4x512x32_S1x512x32_0_0_0 (.of main_arg0) level0) V)))

theorem after_ops (V : Valuation τ sig (Elt F)) : after ops V = after endOps (levels V) := by
  simp only [ops, after_append]; rfl

theorem levels_keep (V : Valuation τ sig (Elt F)) (b : Ref sig .tc) (h0 : b ∉ names level0) (h1 : b ∉ names level1)
    (h2 : b ∉ names level2) (h3 : b ∉ names level3) : levels V (Proc.devRef .tc b) = V (Proc.devRef .tc b) := by
  unfold levels
  rw [level_keep _ _ _ _ _ _ h3, level_keep _ _ _ _ _ _ h2, level_keep _ _ _ _ _ _ h1, level_keep _ _ _ _ _ _ h0]

theorem levels_hold (V : Valuation τ sig (Elt F)) (z : FVec F S131072x32 .f32) (x : FVec F S4x512x32 .f32)
    (hz : V (Proc.devRef .tc main_arg0) = z) (hx : V (Proc.devRef .tc main_arg1) = x) :
    Holds (levels V) level0 z (book x) 0 ∧ Holds (levels V) level1 z (book x) 1 ∧ Holds (levels V) level2 z (book x) 2
      ∧ Holds (levels V) level3 z (book x) 3 := by
  unfold levels
  have k0 : main_arg1 ∉ names level0 := by decide
  have k1 : main_arg1 ∉ names level1 := by decide
  have k2 : main_arg1 ∉ names level2 := by decide
  have a0 := holds_after leaves0 V (z := z) (B := book x) (l := 0) hz (by rw [hx]; rfl)
  generalize hV1 : after (levelOps ![0, 0, 0] slices_S4x512x32_S1x512x32_0_0_0 (.of main_arg0) level0) V = V1 at a0 ⊢
  have x1 : V1 (Proc.devRef .tc main_arg1) = x := by rw [← hV1, level_keep _ _ _ _ _ _ k0, hx]
  have a1 := holds_after leaves1 V1 (z := z) (B := book x) (l := 1) a0.2.2.2.2 (by rw [x1]; rfl)
  have b0 := a0.keep ![1, 0, 0] slices_S4x512x32_S1x512x32_1_0_0 (.of main_v26) level1 (by decide)
  generalize hV2 : after (levelOps ![1, 0, 0] slices_S4x512x32_S1x512x32_1_0_0 (.of main_v26) level1) V1 = V2 at a1 b0 ⊢
  have x2 : V2 (Proc.devRef .tc main_arg1) = x := by rw [← hV2, level_keep _ _ _ _ _ _ k1, x1]
  have a2 := holds_after leaves2 V2 (z := z) (B := book x) (l := 2) a1.2.2.2.2 (by rw [x2]; rfl)
  have b1 := a1.keep ![2, 0, 0] slices_S4x512x32_S1x512x32_2_0_0 (.of main_v53) level2 (by decide)
  have c0 := b0.keep ![2, 0, 0] slices_S4x512x32_S1x512x32_2_0_0 (.of main_v53) level2 (by decide)
  generalize hV3 : after (levelOps ![2, 0, 0] slices_S4x512x32_S1x512x32_2_0_0 (.of main_v53) level2) V2 = V3 at a2 b1 c0 ⊢
  have x3 : V3 (Proc.devRef .tc main_arg1) = x := by rw [← hV3, level_keep _ _ _ _ _ _ k2, x2]
  exact ⟨c0.keep _ _ _ _ (by decide), b1.keep _ _ _ _ (by decide), a2.keep _ _ _ _ (by decide),
    holds_after leaves3 V3 (z := z) (B := book x) (l := 3) a2.2.2.2.2 (by rw [x3]; rfl)⟩

/-- A column of numbers for the stack. -/
def column (i : IVec S131072 32) : IVec S131072x1 32 := broadcastInDim S131072x1 ![0] bcast_S131072_S131072x1_0 i

/-- The results as functions of the rows and codebooks. -/
def codesOf (z : FVec F S131072x32 .f32) (B : ℕ → FVec F S512x32 .f32) : IVec S131072x4 32 :=
  codes4 (column (number z B 0)) (column (number z B 1)) (column (number z B 2)) (column (number z B 3))
def wordsOf (z : FVec F S131072x32 .f32) (B : ℕ → FVec F S512x32 .f32) : FVec F S131072x4x32 .f32 :=
  words4 (taken z B 0) (taken z B 1) (taken z B 2) (taken z B 3)
def totalOf (z : FVec F S131072x32 .f32) (B : ℕ → FVec F S512x32 .f32) : FVec F S131072x32 .f32 :=
  totals z (taken z B 0) (taken z B 1) (taken z B 2) (taken z B 3)
def restsOf (z : FVec F S131072x32 .f32) (B : ℕ → FVec F S512x32 .f32) : FVec F S131072x5x32 .f32 :=
  stack5 (page z) (page (rest z B 1)) (page (rest z B 2)) (page (rest z B 3)) (page (rest z B 4))
def lossOf (z : FVec F S131072x32 .f32) (B : ℕ → FVec F S512x32 .f32) : FVec F S_ .f32 :=
  mean4 (meanSq (rest z B 0) (taken z B 0)) (meanSq (rest z B 1) (taken z B 1)) (meanSq (rest z B 2) (taken z B 2))
    (meanSq (rest z B 3) (taken z B 3))
def bookLossOf (z : FVec F S131072x32 .f32) (B : ℕ → FVec F S512x32 .f32) : FVec F S_ .f32 :=
  mean4 (meanSq (taken z B 0) (rest z B 0)) (meanSq (taken z B 1) (rest z B 1)) (meanSq (taken z B 2) (rest z B 2))
    (meanSq (taken z B 3) (rest z B 3))
def quantLossOf (z : FVec F S131072x32 .f32) (B : ℕ → FVec F S512x32 .f32) : FVec F S_ .f32 :=
  addf (mulf (constant S_ .f32 0x3E800000#32) (lossOf z B)) (bookLossOf z B)

/-- The buffers the last operations write. -/
def endNames : List (Ref sig .tc) :=
  [ main_v108, main_v109, main_v110, main_v111, main_v112, main_cst_27, main_v113, main_v114, main_v115, main_v116,
    main_v117, main_v118, main_v119, main_v120, main_v121, main_v122, main_v123, main_v124, main_v125, main_cst_28,
    main_v126, main_cst_29, main_v127, main_v128, main_v129, main_v130, main_v131, main_v132, main_cst_30, main_v133,
    main_cst_31, main_v134, main_cst_32, main_v135, main_v136, main_v137, main_v138, main_v139, main_v140, main_v141,
    main_v142 ]

theorem end_keep (V : Valuation τ sig (Elt F)) (b : Ref sig .tc) (hb : b ∉ endNames) :
    after endOps V (Proc.devRef .tc b) = V (Proc.devRef .tc b) :=
  after_of_writes_sub _ V (forall_writes_sub_of_map (W := endNames) rfl) hb

/-- What the whole program leaves. -/
theorem ops_leave (V : Valuation τ sig (Elt F)) (z : FVec F S131072x32 .f32) (x : FVec F S4x512x32 .f32)
    (hz : V (Proc.devRef .tc main_arg0) = z) (hx : V (Proc.devRef .tc main_arg1) = x) :
    after ops V (Proc.devRef .tc main_v120) = codesOf z (book x)
      ∧ after ops V (Proc.devRef .tc main_v112) = wordsOf z (book x)
      ∧ after ops V (Proc.devRef .tc main_v115) = totalOf z (book x)
      ∧ after ops V (Proc.devRef .tc main_v142) = restsOf z (book x)
      ∧ after ops V (Proc.devRef .tc main_v127) = lossOf z (book x)
      ∧ after ops V (Proc.devRef .tc main_v134) = bookLossOf z (book x)
      ∧ after ops V (Proc.devRef .tc main_v136) = quantLossOf z (book x)
      ∧ after ops V (Proc.devRef .tc main_arg0) = V (Proc.devRef .tc main_arg0)
      ∧ after ops V (Proc.devRef .tc main_arg1) = V (Proc.devRef .tc main_arg1) := by
  rw [after_ops]
  obtain ⟨h0, h1, h2, h3⟩ := levels_hold V z x hz hx
  have hz' : levels V (Proc.devRef .tc main_arg0) = z := by
    rw [levels_keep V main_arg0 (by decide) (by decide) (by decide) (by decide), hz]
  have ha : after endOps (levels V) (Proc.devRef .tc main_arg0) = V (Proc.devRef .tc main_arg0) := by
    rw [end_keep _ main_arg0 (by decide), levels_keep V main_arg0 (by decide) (by decide) (by decide) (by decide)]
  have hb : after endOps (levels V) (Proc.devRef .tc main_arg1) = V (Proc.devRef .tc main_arg1) := by
    rw [end_keep _ main_arg1 (by decide), levels_keep V main_arg1 (by decide) (by decide) (by decide) (by decide)]
  generalize levels V = W at *
  obtain ⟨n0, w0, e0, f0, r1⟩ := h0
  obtain ⟨n1, w1, e1, f1, r2⟩ := h1
  obtain ⟨n2, w2, e2, f2, r3⟩ := h2
  obtain ⟨n3, w3, e3, f3, r4⟩ := h3
  change W (Proc.devRef .tc main_v16) = _ at n0
  change W (Proc.devRef .tc main_v43) = _ at n1
  change W (Proc.devRef .tc main_v70) = _ at n2
  change W (Proc.devRef .tc main_v97) = _ at n3
  change W (Proc.devRef .tc main_v17) = _ at w0
  change W (Proc.devRef .tc main_v44) = _ at w1
  change W (Proc.devRef .tc main_v71) = _ at w2
  change W (Proc.devRef .tc main_v98) = _ at w3
  change W (Proc.devRef .tc main_v21) = _ at e0
  change W (Proc.devRef .tc main_v48) = _ at e1
  change W (Proc.devRef .tc main_v75) = _ at e2
  change W (Proc.devRef .tc main_v102) = _ at e3
  change W (Proc.devRef .tc main_v25) = _ at f0
  change W (Proc.devRef .tc main_v52) = _ at f1
  change W (Proc.devRef .tc main_v79) = _ at f2
  change W (Proc.devRef .tc main_v106) = _ at f3
  change W (Proc.devRef .tc main_v26) = _ at r1
  change W (Proc.devRef .tc main_v53) = _ at r2
  change W (Proc.devRef .tc main_v80) = _ at r3
  change W (Proc.devRef .tc main_v107) = _ at r4
  have e := end_leaves W
  dsimp only at e
  rw [n0, n1, n2, n3, w0, w1, w2, w3, e0, e1, e2, e3, f0, f1, f2, f3, hz', r1, r2, r3, r4] at e
  obtain ⟨g1, g2, g3, g4, g5, g6, g7⟩ := e
  exact ⟨g1, g2, g3, g4, g5, g6, g7, ha, hb⟩

theorem scoped_none : (Finset.univ.filter fun b : Ref sig .tc => b.isScoped) = ∅ := by decide
theorem sems_none : (Finset.univ.filter fun sm : SemLoc sig => sm.isScoped .tc) = ∅ := by decide

/-- The reference's run: each result at its function of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      let z : FVec F S131072x32 .f32 := m ((c.tc : Thread nD τ).loc main_arg0)
      let B := book (m ((c.tc : Thread nD τ).loc main_arg1) : FVec F S4x512x32 .f32)
      r.2.mem ((c.tc : Thread nD τ).loc main_v120) = codesOf z B
        ∧ r.2.mem ((c.tc : Thread nD τ).loc main_v112) = wordsOf z B
        ∧ r.2.mem ((c.tc : Thread nD τ).loc main_v115) = totalOf z B
        ∧ r.2.mem ((c.tc : Thread nD τ).loc main_v142) = restsOf z B
        ∧ r.2.mem ((c.tc : Thread nD τ).loc main_v127) = lossOf z B
        ∧ r.2.mem ((c.tc : Thread nD τ).loc main_v134) = bookLossOf z B
        ∧ r.2.mem ((c.tc : Thread nD τ).loc main_v136) = quantLossOf z B
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => by
      obtain ⟨g1, g2, g3, g4, g5, g6, g7, g8, g9⟩ := ops_leave (launchContents m c) _ _ rfl rfl
      exact ⟨(h c main_v120).trans g1, (h c main_v112).trans g2, (h c main_v115).trans g3, (h c main_v142).trans g4,
        (h c main_v127).trans g5, (h c main_v134).trans g6, (h c main_v136).trans g7, (h c main_arg0).trans g8,
        (h c main_arg1).trans g9⟩)
    (run_seq scoped_none sems_none defs main (fun _ => ops) main_eq (fun _ => ops_sub) m ρ fun _ => ops_fresh)

end Cert.ReferenceIdeal.Run
-- ==== Proof.Search.lean ====
module

public import proofs.«01_k».proof.Proof.Program
public import proofs.«01_k».proof.Proof.Rows
public import Idealize.ShloMosaic.Lib.Pointwise

/-!
# The reference's search for the first least entry

Over a row of real numbers the search ends at the first place where the row is least.
-/

@[expose] public section

set_option maxRecDepth 65536

noncomputable section

open Idealize.ShloMosaic Idealize.SL.Sem Idealize.ShloMosaic.StableHlo
open Cert.ReferenceIdeal Cert.ReferenceIdeal.Gen Cert.Rows

namespace Cert.ReferenceIdeal.Run

/-! ## The first least entry -/

/-- `a` has the smaller value, or the same value and a number that is not greater. -/
def Before (a b : Ideal .f32 × BitVec 32) : Prop := (a.1 : EReal) < b.1 ∨ (a.1 : EReal) = b.1 ∧ a.2.toInt ≤ b.2.toInt

theorem Before.refl (a : Ideal .f32 × BitVec 32) : Before a a := .inr ⟨rfl, le_rfl⟩

theorem Before.trans {a b c : Ideal .f32 × BitVec 32} : Before a b → Before b c → Before a c := by
  rintro (h | ⟨h, k⟩) (h' | ⟨h', k'⟩)
  · exact .inl (h.trans h')
  · exact .inl (h' ▸ h)
  · exact .inl (h.symm ▸ h')
  · exact .inr ⟨h.trans h', k.trans k'⟩

theorem reducer_spec (a b : Ideal .f32 × BitVec 32) :
    (reducer_argmin_f32_i32 a b = a ∨ reducer_argmin_f32_i32 a b = b)
      ∧ Before (reducer_argmin_f32_i32 a b) a ∧ Before (reducer_argmin_f32_i32 a b) b := by
  obtain ⟨x, i⟩ := a
  obtain ⟨y, j⟩ := b
  have e : reducer_argmin_f32_i32 (F := Ideal) (x, i) (y, j)
      = (if (x : EReal) < y then x else y, if (x : EReal) < y ∨ (x : EReal) = y ∧ i.toInt < j.toInt then i else j) := by
    unfold reducer_argmin_f32_i32
    by_cases h1 : (x : EReal) < y <;> by_cases h2 : (x : EReal) = y <;> by_cases h3 : i.toInt < j.toInt <;>
      simp [FloatOps.cmpf, Ideal.cmp, IntOp.cmpi, IntOp.ori, IntOp.andi, Scalar.select, BitVec.slt, h1, h2, h3]
  rw [e]
  by_cases h1 : (x : EReal) < y
  · simp only [h1, if_true, true_or]
    exact ⟨trivial, .refl _, .inl h1⟩
  · by_cases h2 : (x : EReal) = y
    · by_cases h3 : i.toInt < j.toInt
      · simp only [h2, lt_irrefl, if_false, true_and, h3, if_true, or_true]
        exact ⟨.inl trivial, .refl _, .inr ⟨rfl, h3.le⟩⟩
      · simp only [h2, lt_irrefl, if_false, true_and, h3, or_self]
        exact ⟨.inr trivial, .inr ⟨rfl, by simpa using h3⟩, .refl _⟩
    · simp only [h1, h2, false_and, or_self, if_false]
      exact ⟨.inr trivial, .inl (lt_of_le_of_ne (not_lt.mp h1) (Ne.symm h2)), .refl _⟩

theorem foldl_spec (L : List (Ideal .f32 × BitVec 32)) (a : Ideal .f32 × BitVec 32) :
    (L.foldl reducer_argmin_f32_i32 a = a ∨ L.foldl reducer_argmin_f32_i32 a ∈ L)
      ∧ Before (L.foldl reducer_argmin_f32_i32 a) a ∧ ∀ b ∈ L, Before (L.foldl reducer_argmin_f32_i32 a) b := by
  induction L generalizing a with
  | nil => exact ⟨.inl rfl, .refl _, by simp⟩
  | cons b L ih =>
    obtain ⟨h1, h2, h3⟩ := ih (reducer_argmin_f32_i32 a b)
    obtain ⟨r1, r2, r3⟩ := reducer_spec a b
    refine ⟨?_, h2.trans r2, fun c hc => ?_⟩
    · rcases h1 with h1 | h1
      · rw [List.foldl_cons, h1]
        exact r1.imp id fun e => by rw [e]; exact List.mem_cons_self
      · exact .inr (List.mem_cons_of_mem _ h1)
    · rcases List.mem_cons.mp hc with rfl | hc
      · exact h2.trans r3
      · exact h3 c hc

theorem drop_row (i : Fin 131072) (k : Fin 512) :
    reducesTo_S131072x512_S131072_d1.drop (ix2 i k) = ix1 i := by
  funext a
  match a with
  | ⟨0, _⟩ => rfl

theorem row_eq (y : S131072x512.Idx) (i : Fin 131072) (hy : reducesTo_S131072x512_S131072_d1.drop y = ix1 i) :
    y = ix2 i (y 1) := by
  have h0 : y 0 = i := congrFun hy 0
  funext a
  match a with
  | ⟨0, _⟩ => exact h0
  | ⟨1, _⟩ => rfl

theorem mem_fiber {α β : Type} {s t : Shape} {axes : List (Fin s.rank)} (x : s.Idx → α) (y : s.Idx → β) (h : s.ReducesTo axes t)
    (j : t.Idx) (p : α × β) : p ∈ Host.argReduceFiber x y h j ↔ ∃ i, h.drop i = j ∧ p = (x i, y i) := by
  simp only [Host.argReduceFiber, List.mem_map, List.mem_filter, List.mem_finRange, true_and, decide_eq_true_eq]
  exact ⟨fun ⟨n, hn, e⟩ => ⟨_, hn, e.symm⟩, fun ⟨i, hi, e⟩ => ⟨s.rowMajor i, by rw [Equiv.symm_apply_apply]; exact ⟨hi, e.symm⟩⟩⟩

/-- Over a list of a row's entries with their numbers, the fold ends at the first least entry. -/
theorem scan (L : List (Ideal .f32 × BitVec 32)) (a : Ideal .f32 × BitVec 32) (ha : (a.1 : EReal) = ⊤) (f : Fin 512 → EReal)
    (hr : ∀ k, IsReal (f k)) (mem : ∀ p, p ∈ L ↔ ∃ k : Fin 512, p = (f k, BitVec.ofNat 32 k.val)) :
    (L.foldl reducer_argmin_f32_i32 a).2 = BitVec.ofNat 32 (nearest f).val := by
  obtain ⟨h1, h2, h3⟩ := foldl_spec L a
  generalize L.foldl reducer_argmin_f32_i32 a = p at h1 h2 h3 ⊢
  have hp : p ∈ L := by
    rcases h1 with h1 | h1
    · exfalso
      have h := h3 _ ((mem _).mpr ⟨0, rfl⟩)
      obtain ⟨r, hr0⟩ := hr 0
      rw [h1] at h
      rcases h with h | ⟨h, -⟩
      · exact absurd h (by rw [ha]; exact not_top_lt)
      · rw [ha] at h
        exact EReal.coe_ne_top r (by rw [← hr0]; exact h.symm)
    · exact h1
  obtain ⟨k, rfl⟩ := (mem p).mp hp
  refine congrArg (fun k : Fin 512 => BitVec.ofNat 32 k.val) (nearest_eq f k (fun j => ?_) fun j hj e => ?_).symm
  · rcases h3 _ ((mem _).mpr ⟨j, rfl⟩) with h | ⟨h, -⟩
    · exact h.le
    · exact h.le
  · rcases h3 _ ((mem _).mpr ⟨j, rfl⟩) with h | ⟨-, h⟩
    · exact absurd e.symm h.ne
    · have b1 := j.isLt
      have b2 := k.isLt
      simp only at h
      rw [toInt_ofNat_small _ (by omega), toInt_ofNat_small _ (by omega)] at h
      have := Fin.lt_def.mp hj
      omega

theorem search_eq {s t u : Shape} {axes : List (Fin s.rank)} (x : FVec Ideal s .f32) (y : IVec s 32) (v : FVec Ideal u .f32)
    (w : IVec u 32) (h : s.ReducesTo axes t) (hu : 0 < u.numel) (j : t.Idx) :
    (Host.argReduce reducer_argmin_f32_i32 x y v w h hu j).2
      = ((Host.argReduceFiber x y h j).foldl reducer_argmin_f32_i32 (v (Shape.Idx.first hu), w (Shape.Idx.first hu))).2 := by
  rw [Ideal.argReduce_eq_reduce2, Host.reduce2_eq_foldl_fiber]

theorem top_apply (j : S_.Idx) : (constant (F := Ideal) S_ .f32 0x7F800000#32 j : EReal) = ⊤ := by
  pointwise
  exact infinity_f32

theorem mem_row (d : FVec Ideal S131072x512 .f32) (i : Fin 131072) (f : Fin 512 → EReal) (hf : ∀ k, d (ix2 i k) = f k)
    (p : Ideal .f32 × BitVec 32) :
    p ∈ Host.argReduceFiber d (iotaInDim S131072x512 32 1) reducesTo_S131072x512_S131072_d1 (ix1 i)
      ↔ ∃ k : Fin 512, p = (f k, BitVec.ofNat 32 k.val) :=
  (mem_fiber ..).trans
    ⟨fun ⟨y, hy, e⟩ => ⟨y 1, e.trans (Prod.ext ((congrArg d (row_eq y i hy)).trans (hf _)) rfl)⟩,
      fun ⟨k, e⟩ => ⟨ix2 i k, drop_row i k, e.trans (Prod.ext (hf k).symm rfl)⟩⟩

theorem search_fn {s t u : Shape} {axes : List (Fin s.rank)} (x : FVec Ideal s .f32) (y : IVec s 32) (v : FVec Ideal u .f32)
    (w : IVec u 32) (h : s.ReducesTo axes t) (hu : 0 < u.numel) :
    (fun j => (Host.argReduce reducer_argmin_f32_i32 x y v w h hu j).2)
      = fun j => ((Host.argReduceFiber x y h j).foldl reducer_argmin_f32_i32 (v (Shape.Idx.first hu), w (Shape.Idx.first hu))).2 :=
  funext fun j => search_eq x y v w h hu j

theorem first_eq (d : FVec Ideal S131072x512 .f32) :
    first d = fun j => ((Host.argReduceFiber d (iotaInDim S131072x512 32 1) reducesTo_S131072x512_S131072_d1 j).foldl
      reducer_argmin_f32_i32 (constant S_ .f32 0x7F800000#32 (Shape.Idx.first h_S_), constantI S_ 32 0#32 (Shape.Idx.first h_S_))).2 :=
  search_fn d (iotaInDim S131072x512 32 1) (constant S_ .f32 0x7F800000#32) (constantI S_ 32 0#32) reducesTo_S131072x512_S131072_d1 h_S_

/-- The search finds the first least entry of a row of real numbers. -/
theorem first_apply (d : FVec Ideal S131072x512 .f32) (i : Fin 131072) (f : Fin 512 → EReal) (hf : ∀ k, d (ix2 i k) = f k)
    (hr : ∀ k, IsReal (f k)) : first d (ix1 i) = BitVec.ofNat 32 (nearest f).val :=
  (congrFun (first_eq d) (ix1 i)).trans (scan _ _ (top_apply (Shape.Idx.first h_S_)) f hr (mem_row d i f hf))

end Cert.ReferenceIdeal.Run
-- ==== Proof.RefRows.lean ====
module

public import proofs.«01_k».proof.Proof.RefChain
public import proofs.«01_k».proof.Proof.Search
public import Idealize.ShloMosaic.Lib.Pointwise
public import Idealize.ShloMosaic.Lib.Routing.Ops

/-!
# The reference in the extended reals, row by row

The reference's distances, its search for the first least one and its look-up of words are those of
`Rows.lean`.
-/

@[expose] public section

set_option maxRecDepth 65536

noncomputable section

open Idealize.ShloMosaic Idealize.SL.Sem Idealize.ShloMosaic.StableHlo
open Cert.ReferenceIdeal Cert.ReferenceIdeal.Gen Cert.Rows

namespace Cert.ReferenceIdeal.Run

/-! ## Distances -/

theorem dists_apply (r : FVec Ideal S131072x32 .f32) (b : FVec Ideal S512x32 .f32) (i : Fin 131072) (k : Fin 512) :
    dists r b (ix2 i k) = dist (fun d => r (ix2 i d)) (fun k d => b (ix2 k d)) k := by
  pointwise [dists]
  rw [two_f32]; rfl

/-! ## Look-up -/

theorem picked_apply (b : FVec Ideal S512x32 .f32) (n : IVec S131072 32) (i : Fin 131072) (k : Fin 512) (d : Fin 32)
    (hn : n (ix1 i) = BitVec.ofNat 32 k.val) : picked b n (ix2 i d) = b (ix2 k d) := by
  have hk := k.isLt
  have c1 : IntOp.cmpi .slt (BitVec.ofNat 32 k.val) 0#32 = 0#1 := by
    simp only [IntOp.cmpi, BitVec.slt, toInt_ofNat_small _ hk.le, show (0#32).toInt = 0 from rfl]
    simp only [show ¬ ((k.val : ℤ) < 0) from by omega, decide_false]; rfl
  have c2 : IntOp.cmpi .sge (BitVec.ofNat 32 k.val) 0#32 = 1#1 := by
    simp [IntOp.cmpi, BitVec.sle, toInt_ofNat_small _ hk.le]
  have c3 : IntOp.cmpi .sle (BitVec.ofNat 32 k.val) 511#32 = 1#1 := by
    have : (511#32).toInt = 511 := by decide
    simp only [IntOp.cmpi, BitVec.sle, toInt_ofNat_small _ hk.le, this]
    simp only [show ((k.val : ℤ) ≤ 511) from by omega, decide_true]; rfl
  have hw : wrapped n (ix2 i (0 : Fin 1)) = BitVec.ofNat 32 k.val := by
    pointwise [wrapped]
    rw [hn, c1]; rfl
  have hg := Routing.gather_row gather_S512x32_S131072x1_S131072x32_1_0_n_n_0_1_132 rfl rfl rfl rfl rfl b (wrapped n) i d k hw (by decide)
  rw [show ValueIdx.ix2 i d = ix2 i d from rfl, show ValueIdx.ix2 k d = ix2 k d from rfl] at hg
  unfold picked
  show Scalar.select _ (Host.gather gather_S512x32_S131072x1_S131072x32_1_0_n_n_0_1_132 b (wrapped n) (ix2 i d)) _ = _
  rw [hg]
  have hb : broadcastInDim S131072x32 ![0] bcast_S131072_S131072x32_0
      (Host.reduce IntOp.andi
        (andi (cmpi .sge (wrapped n) (broadcastInDim S131072x1 ![] bcast_S_S131072x1 (constantI S_ 32 0#32)))
          (cmpi .sle (wrapped n) (broadcastInDim S131072x1 ![0, 1] bcast_S1x1_S131072x1_0_1
            (broadcastInDim S1x1 ![1] bcast_S1_S1x1_1 (constantI S1 32 511#32)))))
        (constantI S_ 1 1#1) reducesTo_S131072x1_S131072_d1 h_S_) (ix2 i d) = 1#1 := by
    pointwise
    simp [hw, c2, c3, IntOp.andi]
  rw [hb]; rfl

/-! ## The levels -/

theorem isReal_dist {r : Row} {C : Book} (hr : ∀ d, IsReal (r d)) (hC : ∀ k d, IsReal (C k d)) (k : Fin 512) :
    IsReal (dist r C k) := by
  choose ρ hρ using hr
  choose γ hγ using hC
  have two : (2 : EReal) = ((2 : ℝ) : EReal) := rfl
  unfold Rows.dist
  simp only [hρ, hγ, two, ← EReal.coe_mul, coe_sum, ← EReal.coe_add, ← EReal.coe_sub]
  exact ⟨_, rfl⟩

/-- Row `i` of the argument. -/
abbrev line (z : FVec Ideal S131072x32 .f32) (i : Fin 131072) : Row := fun d => z (ix2 i d)

section
variable {z : FVec Ideal S131072x32 .f32} {B : ℕ → FVec Ideal S512x32 .f32} {C : ℕ → Book}
  (hz : ∀ i d, IsReal (z (ix2 i d))) (hC : ∀ l k d, IsReal (C l k d)) (hB : ∀ l k d, B l (ix2 k d) = C l k d)
include hz hC hB

theorem number_of_rest (l : ℕ) (i : Fin 131072) (h : ∀ d, rest z B l (ix2 i d) = state (line z i) C l d) :
    number z B l (ix1 i) = BitVec.ofNat 32 (code (line z i) C l).val := by
  unfold number code
  refine first_apply _ i _ (fun k => ?_) fun k => isReal_dist (isReal_state (hz i) hC l) (hC l) k
  rw [dists_apply]
  simp only [h, hB]

theorem taken_of_rest (l : ℕ) (i : Fin 131072) (h : ∀ d, rest z B l (ix2 i d) = state (line z i) C l d) (d : Fin 32) :
    taken z B l (ix2 i d) = word (line z i) C l d := by
  unfold taken
  rw [picked_apply _ _ i _ d (number_of_rest hz hC hB l i h), hB]; rfl

theorem rest_apply : ∀ (l : ℕ) (i : Fin 131072) (d : Fin 32), rest z B l (ix2 i d) = state (line z i) C l d
  | 0, _, _ => rfl
  | l + 1, i, d => by
    rw [state_succ, ← rest_apply l i d, ← taken_of_rest hz hC hB l i (rest_apply l i) d]; rfl

theorem number_apply (l : ℕ) (i : Fin 131072) : number z B l (ix1 i) = BitVec.ofNat 32 (code (line z i) C l).val :=
  number_of_rest hz hC hB l i (rest_apply hz hC hB l i)

theorem taken_apply (l : ℕ) (i : Fin 131072) (d : Fin 32) : taken z B l (ix2 i d) = word (line z i) C l d :=
  taken_of_rest hz hC hB l i (rest_apply hz hC hB l i) d

end

/-! ## The results -/

theorem meanSq_apply (x y : FVec Ideal S131072x32 .f32) (j : S_.Idx) :
    meanSq x y j = Ideal.div (∑ i : Fin 131072, ∑ d : Fin 32, (x (ix2 i d) - y (ix2 i d)) * (x (ix2 i d) - y (ix2 i d)) : EReal)
      (Ideal.ofBits .f32 0x4A800000#32) := by
  pointwise [meanSq]

/-- The mean of four numbers, read at its only entry. -/
theorem mean4_apply (v : Fin 4 → FVec Ideal S_ .f32) (j : S_.Idx) :
    mean4 (v 0) (v 1) (v 2) (v 3) j = Ideal.div (∑ l, (v l ix0 : EReal)) (Ideal.ofBits .f32 0x40800000#32) := by
  pointwise [mean4, four]
  refine congrArg (Ideal.div · _) (Finset.sum_congr rfl fun l _ => ?_)
  fin_vals l with hl
  all_goals simp only [hl, Nat.reduceSub, Nat.reduceLT, ↓reduceDIte]
  all_goals exact congrFun (congrArg v (Fin.ext hl.symm)) _

theorem book_apply (x : FVec Ideal S4x512x32 .f32) (l : Fin 4) (k : Fin 512) (d : Fin 32) :
    book x l.val (ix2 k d) = x (ix3 l k d) := by
  fin_cases l <;> pointwise [book, bookAt]

theorem totals_apply (z : FVec Ideal S131072x32 .f32) (v : Fin 4 → FVec Ideal S131072x32 .f32) (i : Fin 131072) (k : Fin 32) :
    totals z (v 0) (v 1) (v 2) (v 3) (ix2 i k) = (z (ix2 i k) + (∑ l, v l (ix2 i k) - z (ix2 i k)) : EReal) := by
  pointwise [totals, words4, stack4, page]
  refine congrArg (fun s : EReal => z (ix2 i k) + (s - z (ix2 i k))) (Finset.sum_congr rfl fun l _ => ?_)
  fin_vals l with hl
  all_goals simp only [hl, Nat.reduceSub, Nat.reduceLT, ↓reduceDIte]
  all_goals exact congrFun (congrArg v (Fin.ext hl.symm)) _

theorem words4_apply (v : Fin 4 → FVec Ideal S131072x32 .f32) (i : Fin 131072) (l : Fin 4) (k : Fin 32) :
    words4 (v 0) (v 1) (v 2) (v 3) (ix3 i l k) = v l (ix2 i k) := by
  pointwise [words4, stack4, page]
  fin_vals l with hl
  all_goals simp only [hl, Nat.reduceSub, Nat.reduceLT, ↓reduceDIte]
  all_goals exact congrFun (congrArg v (Fin.ext hl.symm)) _

theorem codes4_apply (v : Fin 4 → IVec S131072 32) (i : Fin 131072) (l : Fin 4) :
    codes4 (column (v 0)) (column (v 1)) (column (v 2)) (column (v 3)) (ix2 i l) = v l (ix1 i) := by
  pointwise [codes4, column]
  fin_vals l with hl
  all_goals simp only [hl, Nat.reduceSub, Nat.reduceLT, ↓reduceDIte]
  all_goals exact congrFun (congrArg v (Fin.ext hl.symm)) _

theorem stack5_apply (v : Fin 5 → FVec Ideal S131072x32 .f32) (i : Fin 131072) (l : Fin 5) (k : Fin 32) :
    stack5 (page (v 0)) (page (v 1)) (page (v 2)) (page (v 3)) (page (v 4)) (ix3 i l k) = v l (ix2 i k) := by
  pointwise [stack5, page]
  fin_vals l with hl
  all_goals simp only [hl, Nat.reduceSub, Nat.reduceLT, ↓reduceDIte]
  all_goals exact congrFun (congrArg v (Fin.ext hl.symm)) _

end Cert.ReferenceIdeal.Run
-- ==== Proof.Equation.lean ====
module

public import proofs.«01_k».proof.Proof.KernelRun
public import proofs.«01_k».proof.Proof.RefRows

/-!
# The two programs compute the same results

Entry by entry the arrays of the kernel, turned back, are those of the reference: both are read from
the levels of `Rows.lean`.
-/

@[expose] public section

set_option maxRecDepth 65536

noncomputable section

open Idealize.ShloMosaic Idealize.SL.Sem
open Cert.Rows Cert.KernelIdeal.Levels Cert.ReferenceIdeal.Run
open Cert.KernelIdeal.Value (row spent Real meanLoss fiveQuarters)

namespace Cert.Equation

variable {z : FVec Ideal Cert.ReferenceIdeal.S131072x32 .f32} {x : FVec Ideal Cert.ReferenceIdeal.S4x512x32 .f32}

/-- The codebooks of the two programs are the same. -/
theorem book_books (l : ℕ) (k : Fin 512) (d : Fin 32) :
    Cert.ReferenceIdeal.Run.book x l (ix2 k d) = books x l k d :=
  match l with
  | 0 => book_apply x 0 k d
  | 1 => book_apply x 1 k d
  | 2 => book_apply x 2 k d
  | l + 3 => (book_apply x 3 k d).trans
      (congrArg (fun q => x (ix3 q k d)) (Fin.ext (by show 3 = min (l + 3) 3; omega)))

variable (hr : Real z x)
include hr

theorem real_row (i : Fin 131072) (d : Fin 32) : IsReal (z (ix2 i d)) := hr.1 _
theorem real_books (l : ℕ) (k : Fin 512) (d : Fin 32) : IsReal (books x l k d) := hr.2 _

theorem number_eq (l : ℕ) (i : Fin 131072) : number z (Cert.ReferenceIdeal.Run.book x) l (ix1 i)
    = BitVec.ofNat 32 (code (row z i) (books x) l).val :=
  number_apply (real_row hr) (real_books hr) book_books l i

theorem taken_eq (l : ℕ) (i : Fin 131072) (d : Fin 32) : Cert.ReferenceIdeal.Run.taken z (Cert.ReferenceIdeal.Run.book x) l (ix2 i d)
    = word (row z i) (books x) l d :=
  taken_apply (real_row hr) (real_books hr) book_books l i d

theorem rest_eq (l : ℕ) (i : Fin 131072) (d : Fin 32) : Cert.ReferenceIdeal.Run.rest z (Cert.ReferenceIdeal.Run.book x) l (ix2 i d)
    = state (row z i) (books x) l d :=
  rest_apply (real_row hr) (real_books hr) book_books l i d

open Cert.KernelIdeal Cert.KernelIdeal.Gen in
theorem codes_eq : transpose S131072x4 [1, 0] (fun i => BitVec.ofNat 32
      (code (row z (i 1)) (books x) (i 0).val).val : IVec S4x131072 32) transposes_S4x131072_S131072x4_1_0
    = codesOf z (Cert.ReferenceIdeal.Run.book x) := by
  funext y
  obtain ⟨i, l, rfl⟩ : ∃ (i : Fin 131072) (l : Fin 4), y = ix2 i l :=
    ⟨y 0, y 1, funext fun a => by match a with | 0 => rfl | 1 => rfl⟩
  refine Eq.trans ?_ ((codes4_apply (fun l : Fin 4 => number z (Cert.ReferenceIdeal.Run.book x) l.val) i l).trans (number_eq hr l.val i)).symm
  pointwise

open Cert.KernelIdeal Cert.KernelIdeal.Gen in
theorem words_eq : transpose S131072x4x32 [2, 0, 1] (fun i => word (row z (i 2)) (books x) (i 0).val (i 1) : FVec Ideal S4x32x131072 .f32)
      transposes_S4x32x131072_S131072x4x32_2_0_1
    = wordsOf z (Cert.ReferenceIdeal.Run.book x) := by
  funext y
  obtain ⟨i, l, k, rfl⟩ : ∃ (i : Fin 131072) (l : Fin 4) (k : Fin 32), y = ix3 i l k :=
    ⟨y 0, y 1, y 2, funext fun a => by match a with | 0 => rfl | 1 => rfl | 2 => rfl⟩
  refine Eq.trans ?_ ((words4_apply (fun l : Fin 4 => Cert.ReferenceIdeal.Run.taken z (Cert.ReferenceIdeal.Run.book x) l.val) i l k).trans
    (taken_eq hr l.val i k)).symm
  pointwise

open Cert.KernelIdeal Cert.KernelIdeal.Gen in
theorem rests_eq : transpose S131072x5x32 [2, 0, 1] (fun i => state (row z (i 2)) (books x) (i 0).val (i 1) : FVec Ideal S5x32x131072 .f32)
      transposes_S5x32x131072_S131072x5x32_2_0_1
    = restsOf z (Cert.ReferenceIdeal.Run.book x) := by
  funext y
  obtain ⟨i, l, k, rfl⟩ : ∃ (i : Fin 131072) (l : Fin 5) (k : Fin 32), y = ix3 i l k :=
    ⟨y 0, y 1, y 2, funext fun a => by match a with | 0 => rfl | 1 => rfl | 2 => rfl⟩
  refine Eq.trans ?_ ((stack5_apply (fun l : Fin 5 => Cert.ReferenceIdeal.Run.rest z (Cert.ReferenceIdeal.Run.book x) l.val) i l k).trans
    (rest_eq hr l.val i k)).symm
  pointwise

open Cert.KernelIdeal Cert.KernelIdeal.Gen in
theorem total_eq : transpose S131072x32 [1, 0] (fun i => total (row z (i 1)) (books x) (i 0) : FVec Ideal S32x131072 .f32)
      transposes_S32x131072_S131072x32_1_0
    = totalOf z (Cert.ReferenceIdeal.Run.book x) := by
  funext y
  obtain ⟨i, k, rfl⟩ : ∃ (i : Fin 131072) (k : Fin 32), y = ix2 i k :=
    ⟨y 0, y 1, funext fun a => by match a with | 0 => rfl | 1 => rfl⟩
  refine Eq.trans ?_ (totals_apply z (fun l : Fin 4 => Cert.ReferenceIdeal.Run.taken z (Cert.ReferenceIdeal.Run.book x) l.val) i k).symm
  simp only [taken_eq hr]
  pointwise
  rfl

/-- The mean of the four losses, each divided by the number of entries. -/
def mean (z : FVec Ideal Cert.ReferenceIdeal.S131072x32 .f32) (x : FVec Ideal Cert.ReferenceIdeal.S4x512x32 .f32) : EReal :=
  Ideal.div (∑ l : Fin 4, Ideal.div (spent z x l.val) (Ideal.ofBits .f32 0x4A800000#32)) (Ideal.ofBits .f32 0x40800000#32)

omit hr in
open Cert.KernelIdeal Cert.KernelIdeal.Gen in
theorem meanLoss_eq (j : S_.Idx) : meanLoss (fun i => spent z x (i 1).val : FVec Ideal S1x4 .f32) j = mean z x := by
  pointwise [meanLoss]
  rfl

theorem loss_level (l : ℕ) (j : Cert.ReferenceIdeal.S_.Idx) :
    meanSq (Cert.ReferenceIdeal.Run.rest z (Cert.ReferenceIdeal.Run.book x) l)
      (Cert.ReferenceIdeal.Run.taken z (Cert.ReferenceIdeal.Run.book x) l) j
      = Ideal.div (spent z x l) (Ideal.ofBits .f32 0x4A800000#32) := by
  rw [meanSq_apply]
  simp only [rest_eq hr, taken_eq hr, ← state_succ]
  rfl

theorem bookLoss_level (l : ℕ) (j : Cert.ReferenceIdeal.S_.Idx) :
    meanSq (Cert.ReferenceIdeal.Run.taken z (Cert.ReferenceIdeal.Run.book x) l)
      (Cert.ReferenceIdeal.Run.rest z (Cert.ReferenceIdeal.Run.book x) l) j
      = Ideal.div (spent z x l) (Ideal.ofBits .f32 0x4A800000#32) := by
  rw [meanSq_apply]
  simp only [rest_eq hr, taken_eq hr]
  have e : ∀ i d, (word (row z i) (books x) l d - state (row z i) (books x) l d) * (word (row z i) (books x) l d
      - state (row z i) (books x) l d) = state (row z i) (books x) (l + 1) d * state (row z i) (books x) (l + 1) d := fun i d =>
    sq_sub_comm (isReal_word (real_books hr) l d) (isReal_state (real_row hr i) (real_books hr) l d)
  simp only [e]
  rfl

theorem loss_eq : meanLoss (fun i => spent z x (i 1).val) = lossOf z (Cert.ReferenceIdeal.Run.book x) := by
  funext j
  refine (meanLoss_eq j).trans (Eq.trans ?_ (mean4_apply (fun l : Fin 4 => meanSq
    (Cert.ReferenceIdeal.Run.rest z (Cert.ReferenceIdeal.Run.book x) l.val)
    (Cert.ReferenceIdeal.Run.taken z (Cert.ReferenceIdeal.Run.book x) l.val)) j).symm)
  simp only [loss_level hr]
  rfl

theorem bookLoss_eq : meanLoss (fun i => spent z x (i 1).val) = bookLossOf z (Cert.ReferenceIdeal.Run.book x) := by
  funext j
  refine (meanLoss_eq j).trans (Eq.trans ?_ (mean4_apply (fun l : Fin 4 => meanSq
    (Cert.ReferenceIdeal.Run.taken z (Cert.ReferenceIdeal.Run.book x) l.val)
    (Cert.ReferenceIdeal.Run.rest z (Cert.ReferenceIdeal.Run.book x) l.val)) j).symm)
  simp only [bookLoss_level hr]
  rfl

theorem quantLoss_eq : fiveQuarters (meanLoss (fun i => spent z x (i 1).val)) = quantLossOf z (Cert.ReferenceIdeal.Run.book x) := by
  unfold fiveQuarters quantLossOf
  rw [← loss_eq hr, ← bookLoss_eq hr]

end Cert.Equation
-- ==== Proof.Finite.lean ====
module

public import proofs.«01_k».proof.Defs
public import proofs.«01_k».proof.Proof.Gen.ReferenceIdeal
public import proofs.«01_k».proof.Proof.Arrays
public import Idealize.ShloMosaic.Lib.ReduceAll
public import Idealize.ShloMosaic.Lib.Pointwise

/-!
# What the precondition says

`finite` compares the size of every entry of the two arguments with infinity; so every entry is a
real number.
-/

@[expose] public section

set_option maxRecDepth 16384

noncomputable section

open Idealize.ShloMosaic Idealize.SL.Sem
open Cert.Rows

namespace Cert.Finite

theorem facts : Cert.Pre_finite.Facts where
  bcast_S_S131072x32 := by decide
  reducesTo_S131072x32_S_d0_1 := Cert.ReferenceIdeal.Gen.facts.reducesTo_S131072x32_S_d0_1
  h_S_ := by decide
  bcast_S_S4x512x32 := by decide
  reducesTo_S4x512x32_S_d0_1_2 := by decide

/-- What lies below infinity with both signs is a real number. -/
theorem isReal_of_lt {x : EReal} (h : max x (-x) < ⊤) : IsReal x := by
  induction x using EReal.rec with
  | bot => simp at h
  | coe r => exact ⟨r, rfl⟩
  | top => simp at h

theorem isReal_of_cmp {x : Ideal .f32} (h : FloatOps.cmpf .olt (FloatOps.hostAbsf x) (Ideal.ofBits .f32 0x7F800000#32 : Ideal .f32) = 1#1) :
    IsReal x := by
  rw [infinity_f32] at h
  refine isReal_of_lt (not_not.mp fun hn => ?_)
  have h' : BitVec.ofBool (decide (max (x : EReal) (-x) < ⊤)) = 1#1 := h
  rw [decide_eq_false hn] at h'
  exact absurd h' (by decide)

attribute [local instance] facts

instance : Subsingleton Cert.Pre_finite.S_.Idx := ⟨fun a b => funext fun d => d.elim0⟩

theorem real (z : FVec Ideal Cert.Pre_finite.S131072x32 .f32) (x : FVec Ideal Cert.Pre_finite.S4x512x32 .f32)
    (h : Cert.Pre_finite.fn (F := Ideal) z x = fun _ => 1#1) : Cert.KernelIdeal.Value.Real z x := by
  have h0 := congrFun h ix0
  unfold Cert.Pre_finite.fn at h0
  obtain ⟨h1, h2⟩ := IntOp.andi_eq_one.mp h0
  exact ⟨fun i => isReal_of_cmp (Host.reduce_andi_all _ _ _ _ _ h1 i), fun i => isReal_of_cmp (Host.reduce_andi_all _ _ _ _ _ h2 i)⟩

end Cert.Finite
-- ==== Proof.lean ====
module

public import proofs.«01_k».proof.Defs
public import proofs.«01_k».proof.Proof.Gen.Kernel.Frame
public import proofs.«01_k».proof.Proof.Equation
public import proofs.«01_k».proof.Proof.Finite
public import Idealize.ShloMosaic.Lib.Claim

/-!
# The certificate of the residual quantizer

The two kernel programs' runs are the generated ones; the reference's run is `Run.run`
(`Proof/RefChain.lean`). The equation of the results is `Proof/Equation.lean`, under the precondition
that `Proof/Finite.lean` reads.
-/

@[expose] public section

noncomputable section

namespace Cert.Proof

open Idealize.ShloMosaic Idealize.SL.Sem

/-- The reference terminates, leaves its arguments as they were, and has no semaphore. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2.2.2.2, Idealize.ShloMosaic.sem_eq_zero_of_no_sems (by decide) r.2⟩)
    (Cert.ReferenceIdeal.Run.run (F := Ideal) m ρ)

open Cert.KernelIdeal.Value Cert.ReferenceIdeal.Run in
/-- From arguments with real entries kernel and reference compute the same results. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  have hr : ∀ c, Real (Z m c) (C m c) := fun c => Cert.Finite.real _ _ (hpre c)
  refine ⟨fun c => codesOf (F := Ideal) (Z m c) (book (C m c)),
    fun c => wordsOf (F := Ideal) (Z m c) (book (C m c)),
    fun c => totalOf (F := Ideal) (Z m c) (book (C m c)),
    fun c => totalOf (F := Ideal) (Z m c) (book (C m c)),
    fun c => restsOf (F := Ideal) (Z m c) (book (C m c)),
    fun c => lossOf (F := Ideal) (Z m c) (book (C m c)),
    fun c => bookLossOf (F := Ideal) (Z m c) (book (C m c)),
    fun c => quantLossOf (F := Ideal) (Z m c) (book (C m c)),
    (θ_run Cert.KernelIdeal.defs _ _).mono (fun r h c => ?_) (Cert.KernelIdeal.Value.run m g),
    (θ_run Cert.ReferenceIdeal.defs _ _).mono (fun r h c => ?_) (Cert.ReferenceIdeal.Run.run (F := Ideal) m' g')⟩
  · obtain ⟨h3, h4, h5, h6, h7, h12, h14, ha⟩ := h c
    rw [codes_end (hr c)] at h3
    rw [words_end (hr c)] at h4
    rw [total_end (hr c)] at h5
    rw [total_end' (hr c)] at h6
    rw [rests_end (hr c)] at h7
    rw [losses_end (hr c)] at h12 h14
    exact ⟨h3.trans (Cert.Equation.codes_eq (hr c)), h4.trans (Cert.Equation.words_eq (hr c)),
      h5.trans (Cert.Equation.total_eq (hr c)), h6.trans (Cert.Equation.total_eq (hr c)), h7.trans (Cert.Equation.rests_eq (hr c)),
      h12.trans (Cert.Equation.loss_eq (hr c)), h12.trans (Cert.Equation.bookLoss_eq (hr c)),
      h14.trans (Cert.Equation.quantLoss_eq (hr c)), ha⟩
  · obtain ⟨hc, hw, ht, hs, hl, hb, hq, ha⟩ := h c
    rw [(hagree c).1, (hagree c).2] at hc hw ht hs hl hb hq
    exact ⟨hc, hw, ht, ht, hs, hl, hb, hq, ha⟩

theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, algebraic⟩

end Cert.Proof

end
